-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def preserves_Kernel_KernelIdeal : Prop :=
  IdealRules.named_const.Statement Cert.KernelIdeal.κ "s_log2e" .f32 0x3E0293EE#32 (((Real.sqrt 128)⁻¹ * (Real.log 2)⁻¹ : ℝ) : EReal)

def algebraic_KernelIdeal_ReferenceIdeal_pre_finite_gains [hKernelIdeal : Cert.KernelIdeal.Facts] [hReferenceIdeal : Cert.ReferenceIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v18) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_v17) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)) →
    ∃ (v0 : (c : Dev Cert.Kernel5Ideal.nD) → Buf (Elt Ideal) ((c.tc : Thread Cert.Kernel5Ideal.nD Cert.Kernel5Ideal.τ).loc Cert.Kernel5Ideal.main_v15_0)) (v1 : (c : Dev Cert.Kernel5Ideal.nD) → Buf (Elt Ideal) ((c.tc : Thread Cert.Kernel5Ideal.nD Cert.Kernel5Ideal.τ).loc Cert.Kernel5Ideal.main_v15_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v15_0) = v0 c
          ∧ r.2.mem ((c.tc : Thread Cert.Kernel5Ideal.nD Cert.Kernel5Ideal.τ).loc Cert.Kernel5Ideal.main_v15_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_v18) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0))

def preserves_Kernel6_Kernel6Ideal : Prop :=
  IdealRules.named_const.Statement Cert.Kernel6Ideal.κ "s_ortho" .f32 0x3A3504F3#32 (((Real.sqrt 2097152)⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v15)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_gains : Cert.Pre_finite_gains.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_gains (hKernelIdeal := hKernelIdeal) (hReferenceIdeal := hReferenceIdeal) (hPre_finite_gains := hPre_finite_gains)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_gains.lean ====
abbrev S8192x8192 : Shape := ⟨2, ![8192, 8192]⟩
abbrev S1x128 : Shape := ⟨2, ![1, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel

variable [Facts]

def fn {F : FTy → Type} [FloatOps F] (main_arg0 : FVec F S8192x8192 .bf16) (main_arg1 : FVec F S1x128 .f32) (main_arg2 : FVec F S1x128 .f32) : IVec S_ 1 :=
  let main_v0 : FVec F S1x128 .f32 := Host.absf main_arg1
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg2
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Kernel.lean ====
abbrev S8192x8192 : Shape := ⟨2, ![8192, 8192]⟩
abbrev S1x128 : Shape := ⟨2, ![1, 128]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S64 : Shape := ⟨1, ![64]⟩
abbrev S64x1 : Shape := ⟨2, ![64, 1]⟩
abbrev S64x32 : Shape := ⟨2, ![64, 32]⟩
abbrev S128x64x32 : Shape := ⟨3, ![128, 64, 32]⟩
abbrev S8192x32 : Shape := ⟨2, ![8192, 32]⟩
abbrev S1x64x1x32 : Shape := ⟨4, ![1, 64, 1, 32]⟩
abbrev S128x64x1x32 : Shape := ⟨4, ![128, 64, 1, 32]⟩
abbrev S8192x128 : Shape := ⟨2, ![8192, 128]⟩
abbrev S128x8192 : Shape := ⟨2, ![128, 8192]⟩
abbrev S16x128x8192 : Shape := ⟨3, ![16, 128, 8192]⟩
abbrev S8192x512 : Shape := ⟨2, ![8192, 512]⟩
abbrev S4x16x144x512 : Shape := ⟨4, ![4, 16, 144, 512]⟩
abbrev S512x2048 : Shape := ⟨2, ![512, 2048]⟩
abbrev S512x512 : Shape := ⟨2, ![512, 512]⟩
abbrev S512x128 : Shape := ⟨2, ![512, 128]⟩
abbrev S128x512 : Shape := ⟨2, ![128, 512]⟩
abbrev S16x128x512 : Shape := ⟨3, ![16, 128, 512]⟩
abbrev S4x1x144x512 : Shape := ⟨4, ![4, 1, 144, 512]⟩
abbrev S512 : Shape := ⟨1, ![512]⟩
abbrev S1x512 : Shape := ⟨2, ![1, 512]⟩
abbrev S32x512 : Shape := ⟨2, ![32, 512]⟩
abbrev S1x128x512 : Shape := ⟨3, ![1, 128, 512]⟩
abbrev S16x512 : Shape := ⟨2, ![16, 512]⟩
abbrev S512x1 : Shape := ⟨2, ![512, 1]⟩
abbrev S144x512 : Shape := ⟨2, ![144, 512]⟩
abbrev S1x1x144x512 : Shape := ⟨4, ![1, 1, 144, 512]⟩
abbrev S8192x2048 : Shape := ⟨2, ![8192, 2048]⟩
abbrev S4x128x1024 : Shape := ⟨3, ![4, 128, 1024]⟩
abbrev S1x16x144x512 : Shape := ⟨4, ![1, 16, 144, 512]⟩
abbrev S1024x512 : Shape := ⟨2, ![1024, 512]⟩
abbrev S4x144x1024 : Shape := ⟨3, ![4, 144, 1024]⟩
abbrev S4x512x1024 : Shape := ⟨3, ![4, 512, 1024]⟩
abbrev S1x128x1024 : Shape := ⟨3, ![1, 128, 1024]⟩
abbrev S128x1024 : Shape := ⟨2, ![128, 1024]⟩
abbrev S512x1024 : Shape := ⟨2, ![512, 1024]⟩
abbrev S1x512x1024 : Shape := ⟨3, ![1, 512, 1024]⟩
abbrev S1x144x1024 : Shape := ⟨3, ![1, 144, 1024]⟩
abbrev S144x1024 : Shape := ⟨2, ![144, 1024]⟩
abbrev S1x1024 : Shape := ⟨2, ![1, 1024]⟩
abbrev S1024x128 : Shape := ⟨2, ![1024, 128]⟩

abbrev nBuf : Space → Nat
  | .hbm => 54
  | .vmem => 32
  | .smem => 0
  | _ => 0

abbrev bufTy : (tb : Table) → Fin (tcTables nBuf tb) → BufTy
  | .hbm, ⟨0, _⟩ => ⟨S8192x8192, .bf16⟩
  | .hbm, ⟨1, _⟩ => ⟨S1x128, .f32⟩
  | .hbm, ⟨2, _⟩ => ⟨S1x128, .f32⟩
  | .hbm, ⟨3, _⟩ => ⟨S32, .f32⟩
  | .hbm, ⟨4, _⟩ => ⟨S_, .f32⟩
  | .hbm, ⟨5, _⟩ => ⟨S32, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S128, .f32⟩
  | .hbm, ⟨18, _⟩ => ⟨S128x1, .f32⟩
  | .hbm, ⟨19, _⟩ => ⟨S1x32, .f32⟩
  | .hbm, ⟨20, _⟩ => ⟨S128x32, .f32⟩
  | .hbm, ⟨21, _⟩ => ⟨S128x32, .f32⟩
  | .hbm, ⟨22, _⟩ => ⟨S128x32, .f32⟩
  | .hbm, ⟨23, _⟩ => ⟨S64, .f32⟩
  | .hbm, ⟨24, _⟩ => ⟨S64x1, .f32⟩
  | .hbm, ⟨25, _⟩ => ⟨S1x32, .f32⟩
  | .hbm, ⟨26, _⟩ => ⟨S64x32, .f32⟩
  | .hbm, ⟨27, _⟩ => ⟨S64x32, .f32⟩
  | .hbm, ⟨28, _⟩ => ⟨S64x32, .f32⟩
  | .hbm, ⟨29, _⟩ => ⟨S128x32, .f32⟩
  | .hbm, ⟨30, _⟩ => ⟨S128x32, .f32⟩
  | .hbm, ⟨31, _⟩ => ⟨S128x64x32, .f32⟩
  | .hbm, ⟨32, _⟩ => ⟨S8192x32, .f32⟩
  | .hbm, ⟨33, _⟩ => ⟨S128x64x32, .f32⟩
  | .hbm, ⟨34, _⟩ => ⟨S8192x32, .f32⟩
  | .hbm, ⟨35, _⟩ => ⟨S64x32, .f32⟩
  | .hbm, ⟨36, _⟩ => ⟨S64x32, .f32⟩
  | .hbm, ⟨37, _⟩ => ⟨S1x64x1x32, .f32⟩
  | .hbm, ⟨38, _⟩ => ⟨S128x64x1x32, .f32⟩
  | .hbm, ⟨39, _⟩ => ⟨S8192x32, .f32⟩
  | .hbm, ⟨40, _⟩ => ⟨S1x64x1x32, .f32⟩
  | .hbm, ⟨41, _⟩ => ⟨S128x64x1x32, .f32⟩
  | .hbm, ⟨42, _⟩ => ⟨S8192x32, .f32⟩
  | .hbm, ⟨43, _⟩ => ⟨S8192x128, .f32⟩
  | .hbm, ⟨44, _⟩ => ⟨S8192x32, .f32⟩
  | .hbm, ⟨45, _⟩ => ⟨S8192x32, .f32⟩
  | .hbm, ⟨46, _⟩ => ⟨S8192x128, .f32⟩
  | .hbm, ⟨47, _⟩ => ⟨S128x8192, .f32⟩
  | .hbm, ⟨48, _⟩ => ⟨S128x8192, .f32⟩
  | .hbm, ⟨49, _⟩ => ⟨S128x1, .f32⟩
  | .hbm, ⟨50, _⟩ => ⟨S16x128x8192, .bf16⟩
  | .hbm, ⟨51, _⟩ => ⟨S8192x512, .bf16⟩
  | .hbm, ⟨52, _⟩ => ⟨S4x16x144x512, .bf16⟩
  | .hbm, ⟨53, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S128x1, .f32⟩
  | .local _ .vmem, ⟨7, _⟩ => ⟨S1x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S16x128x512, .bf16⟩
  | .local _ .vmem, ⟨17, _⟩ => ⟨S16x128x512, .bf16⟩
  | .local _ .vmem, ⟨18, _⟩ => ⟨S512x512, .bf16⟩
  | .local _ .vmem, ⟨19, _⟩ => ⟨S512x512, .bf16⟩
  | .local _ .vmem, ⟨20, _⟩ => ⟨S4x1x144x512, .bf16⟩
  | .local _ .vmem, ⟨21, _⟩ => ⟨S4x1x144x512, .bf16⟩
  | .local _ .vmem, ⟨22, _⟩ => ⟨S4x128x1024, .bf16⟩
  | .local _ .vmem, ⟨23, _⟩ => ⟨S4x128x1024, .bf16⟩
  | .local _ .vmem, ⟨24, _⟩ => ⟨S8192x128, .bf16⟩
  | .local _ .vmem, ⟨25, _⟩ => ⟨S8192x128, .bf16⟩
  | .local _ .vmem, ⟨26, _⟩ => ⟨S1x16x144x512, .bf16⟩
  | .local _ .vmem, ⟨27, _⟩ => ⟨S1x16x144x512, .bf16⟩
  | .local _ .vmem, ⟨28, _⟩ => ⟨S1024x512, .bf16⟩
  | .local _ .vmem, ⟨29, _⟩ => ⟨S1024x512, .bf16⟩
  | .local _ .vmem, ⟨30, _⟩ => ⟨S4x144x1024, .f32⟩
  | .local _ .vmem, ⟨31, _⟩ => ⟨S4x512x1024, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43_0 : Ref sig .tc := ⟨.hbm, 50, rfl⟩
abbrev main_v43_1 : Ref sig .tc := ⟨.hbm, 51, rfl⟩
abbrev main_v43_2 : Ref sig .tc := ⟨.hbm, 52, rfl⟩
abbrev main_v44 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc1_stg0_0 : Ref sig .tc := ⟨.vmem, 22, rfl⟩
abbrev cc1_stg0_1 : Ref sig .tc := ⟨.vmem, 23, rfl⟩
abbrev cc1_stg1_0 : Ref sig .tc := ⟨.vmem, 24, rfl⟩
abbrev cc1_stg1_1 : Ref sig .tc := ⟨.vmem, 25, rfl⟩
abbrev cc1_stg2_0 : Ref sig .tc := ⟨.vmem, 26, rfl⟩
abbrev cc1_stg2_1 : Ref sig .tc := ⟨.vmem, 27, rfl⟩
abbrev cc1_stg3_0 : Ref sig .tc := ⟨.vmem, 28, rfl⟩
abbrev cc1_stg3_1 : Ref sig .tc := ⟨.vmem, 29, rfl⟩
abbrev cc1_scratch0 : Ref sig .tc := ⟨.vmem, 30, rfl⟩
abbrev cc1_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc1_sem0_0 : DmaSem sig := 22
abbrev cc1_sem0_1 : DmaSem sig := 23
abbrev cc1_sem1_0 : DmaSem sig := 24
abbrev cc1_sem1_1 : DmaSem sig := 25
abbrev cc1_sem2_0 : DmaSem sig := 26
abbrev cc1_sem2_1 : DmaSem sig := 27
abbrev cc1_sem3_0 : DmaSem sig := 28
abbrev cc1_sem3_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1x144x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨3, ![1, 4, 8], ![false, false, false]⟩

def k1_mult1 : BitVec 32 :=
  let c0_i32 : BitVec 32 := 0#32
  c0_i32
@[reducible] def k1_t1_loop : Scf.Loop 32 :=
  let c1_i32 : BitVec 32 := 1#32
  let c15_i32 : BitVec 32 := 15#32
  let v40 : BitVec 32 := Scalar.addi c1_i32 c15_i32
  let c1_i32_28 : BitVec 32 := 1#32
  ⟨c1_i32, v40, c1_i32_28⟩
def k1_mult2 (k1_t1 : Fin k1_t1_loop.trips) : BitVec 32 :=
  let c1_i32 : BitVec 32 := 1#32
  let c1_i32_28 : BitVec 32 := 1#32
  let arg9 : BitVec 32 := Scf.iv c1_i32 c1_i32_28 k1_t1
  let c512_i32 : BitVec 32 := 512#32
  let v115 : BitVec 32 := Scalar.muli arg9 c512_i32
  v115
def k1_off1 (k1_t1 : Fin k1_t1_loop.trips) : Fin 2 → Nat :=
  let c1_i32 : BitVec 32 := 1#32
  let c1_i32_28 : BitVec 32 := 1#32
  let arg9 : BitVec 32 := Scf.iv c1_i32 c1_i32_28 k1_t1
  let c512_i32 : BitVec 32 := 512#32
  let v115 : BitVec 32 := Scalar.muli arg9 c512_i32
  let v116 : BitVec 32 := v115
  let v117 : Index := Scalar.indexCast v116
  let c0_90 : Index := 0#32
  ![v117.toNat, 0]
def k1_off2 (k1_t1 : Fin k1_t1_loop.trips) : Fin 4 → Nat :=
  let c0_92 : Index := 0#32
  let c1_i32 : BitVec 32 := 1#32
  let c1_i32_28 : BitVec 32 := 1#32
  let arg9 : BitVec 32 := Scf.iv c1_i32 c1_i32_28 k1_t1
  let c1_i32_91 : BitVec 32 := 1#32
  let v120 : BitVec 32 := Scalar.subi arg9 c1_i32_91
  let v121 : Index := Scalar.indexCast v120
  let c0_93 : Index := 0#32
  let c0_94 : Index := 0#32
  ![0, v121.toNat, 0, 0]
def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  ![arg1.toNat, c0_i32.toNat, v1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage1_0 : Fin 2 → Memref sig .tc .vmem S4x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S8192x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x16x144x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]
-- ==== KernelIdeal.lean ====
variable {F : FTy → Type} [FloatOps F] [Named F]
def κ : String → Option EReal := fun
  | "s_log2e" => some (((Real.sqrt 128)⁻¹ * (Real.log 2)⁻¹ : ℝ) : EReal)
  | _ => none
-- ==== ReferenceIdeal.lean ====
abbrev S8192x8192 : Shape := ⟨2, ![8192, 8192]⟩
abbrev S1x128 : Shape := ⟨2, ![1, 128]⟩
abbrev S8192x2048 : Shape := ⟨2, ![8192, 2048]⟩
abbrev S8192x16x128 : Shape := ⟨3, ![8192, 16, 128]⟩
abbrev S8192x512 : Shape := ⟨2, ![8192, 512]⟩
abbrev S8192x4x128 : Shape := ⟨3, ![8192, 4, 128]⟩
abbrev S128 : Shape := ⟨1, ![128]⟩
abbrev S_ : Shape := ⟨0, ![]⟩
abbrev S8192x16 : Shape := ⟨2, ![8192, 16]⟩
abbrev S8192x16x1 : Shape := ⟨3, ![8192, 16, 1]⟩
abbrev S1x1x128 : Shape := ⟨3, ![1, 1, 128]⟩
abbrev S8192x4 : Shape := ⟨2, ![8192, 4]⟩
abbrev S8192x4x1 : Shape := ⟨3, ![8192, 4, 1]⟩
abbrev S128x1 : Shape := ⟨2, ![128, 1]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x16x64 : Shape := ⟨3, ![8192, 16, 64]⟩
abbrev S8192x16x32 : Shape := ⟨3, ![8192, 16, 32]⟩
abbrev S8192x1x32 : Shape := ⟨3, ![8192, 1, 32]⟩
abbrev S8192x4x4x128 : Shape := ⟨4, ![8192, 4, 4, 128]⟩
abbrev S8192x4x64 : Shape := ⟨3, ![8192, 4, 64]⟩
abbrev S8192x4x32 : Shape := ⟨3, ![8192, 4, 32]⟩
abbrev S4x8192x8192x4 : Shape := ⟨4, ![4, 8192, 8192, 4]⟩
abbrev S4x4x8192x8192 : Shape := ⟨4, ![4, 4, 8192, 8192]⟩
abbrev S4x4x8192 : Shape := ⟨3, ![4, 4, 8192]⟩
abbrev S4x4x8192x1 : Shape := ⟨4, ![4, 4, 8192, 1]⟩
abbrev S4x128x4x8192 : Shape := ⟨4, ![4, 128, 4, 8192]⟩

abbrev nBuf : Space → Nat
  | .hbm => 171
  | .vmem => 0
  | .smem => 0
  | _ => 0

abbrev hbmTy0_0 (i : Nat) : BufTy := match i % 128 with
  | 0 => ⟨S8192x8192, .bf16⟩
  | 1 => ⟨S1x128, .f32⟩
  | 2 => ⟨S1x128, .f32⟩
  | 3 => ⟨S8192x8192, .f32⟩
  | 4 => ⟨S8192x2048, .f32⟩
  | 5 => ⟨S8192x16x128, .f32⟩
  | 6 => ⟨S8192x512, .f32⟩
  | 7 => ⟨S8192x4x128, .f32⟩
  | 8 => ⟨S8192x512, .f32⟩
  | 9 => ⟨S8192x4x128, .f32⟩
  | 10 => ⟨S128, .f32⟩
  | 11 => ⟨S8192x16x128, .f32⟩
  | 12 => ⟨S_, .f32⟩
  | 13 => ⟨S8192x16, .f32⟩
  | 14 => ⟨S8192x16x1, .f32⟩
  | 15 => ⟨S_, .f32⟩
  | 16 => ⟨S8192x16x1, .f32⟩
  | 17 => ⟨S8192x16x1, .f32⟩
  | 18 => ⟨S_, .f32⟩
  | 19 => ⟨S8192x16x1, .f32⟩
  | 20 => ⟨S8192x16x1, .f32⟩
  | 21 => ⟨S8192x16x1, .f32⟩
  | 22 => ⟨S8192x16x128, .f32⟩
  | 23 => ⟨S8192x16x128, .f32⟩
  | 24 => ⟨S1x1x128, .f32⟩
  | 25 => ⟨S8192x16x128, .f32⟩
  | 26 => ⟨S8192x16x128, .f32⟩
  | 27 => ⟨S128, .f32⟩
  | 28 => ⟨S8192x4x128, .f32⟩
  | 29 => ⟨S_, .f32⟩
  | 30 => ⟨S8192x4, .f32⟩
  | 31 => ⟨S8192x4x1, .f32⟩
  | 32 => ⟨S_, .f32⟩
  | 33 => ⟨S8192x4x1, .f32⟩
  | 34 => ⟨S8192x4x1, .f32⟩
  | 35 => ⟨S_, .f32⟩
  | 36 => ⟨S8192x4x1, .f32⟩
  | 37 => ⟨S8192x4x1, .f32⟩
  | 38 => ⟨S8192x4x1, .f32⟩
  | 39 => ⟨S8192x4x128, .f32⟩
  | 40 => ⟨S8192x4x128, .f32⟩
  | 41 => ⟨S1x1x128, .f32⟩
  | 42 => ⟨S8192x4x128, .f32⟩
  | 43 => ⟨S8192x4x128, .f32⟩
  | 44 => ⟨S128, .f32⟩
  | 45 => ⟨S128x1, .f32⟩
  | 46 => ⟨S128x64, .f32⟩
  | 47 => ⟨S8192, .f32⟩
  | 48 => ⟨S64, .f32⟩
  | 49 => ⟨S1x64, .f32⟩
  | 50 => ⟨S128x64, .f32⟩
  | 51 => ⟨S8192, .f32⟩
  | 52 => ⟨S32, .f32⟩
  | 53 => ⟨S_, .f32⟩
  | 54 => ⟨S32, .f32⟩
  | 55 => ⟨S32, .f32⟩
  | 56 => ⟨S_, .f32⟩
  | 57 => ⟨S32, .f32⟩
  | 58 => ⟨S32, .f32⟩
  | 59 => ⟨S32, .f32⟩
  | 60 => ⟨S_, .f32⟩
  | 61 => ⟨S32, .f32⟩
  | 62 => ⟨S32, .f32⟩
  | 63 => ⟨S_, .f32⟩
  | 64 => ⟨S32, .f32⟩
  | 65 => ⟨S32, .f32⟩
  | 66 => ⟨S8192x1, .f32⟩
  | 67 => ⟨S1x32, .f32⟩
  | 68 => ⟨S8192x32, .f32⟩
  | 69 => ⟨S8192x32, .f32⟩
  | 70 => ⟨S8192x32, .f32⟩
  | 71 => ⟨S8192x1, .f32⟩
  | 72 => ⟨S1x32, .f32⟩
  | 73 => ⟨S8192x32, .f32⟩
  | 74 => ⟨S8192x32, .f32⟩
  | 75 => ⟨S8192x32, .f32⟩
  | 76 => ⟨S8192x32, .f32⟩
  | 77 => ⟨S8192x32, .f32⟩
  | 78 => ⟨S8192x32, .f32⟩
  | 79 => ⟨S8192x32, .f32⟩
  | 80 => ⟨S8192x16x64, .f32⟩
  | 81 => ⟨S8192x16x32, .f32⟩
  | 82 => ⟨S8192x16x32, .f32⟩
  | 83 => ⟨S8192x1x32, .f32⟩
  | 84 => ⟨S8192x1x32, .f32⟩
  | 85 => ⟨S8192x16x32, .f32⟩
  | 86 => ⟨S8192x16x32, .f32⟩
  | 87 => ⟨S8192x16x32, .f32⟩
  | 88 => ⟨S8192x16x32, .f32⟩
  | 89 => ⟨S8192x16x32, .f32⟩
  | 90 => ⟨S8192x16x32, .f32⟩
  | 91 => ⟨S8192x16x32, .f32⟩
  | 92 => ⟨S8192x16x32, .f32⟩
  | 93 => ⟨S8192x16x32, .f32⟩
  | 94 => ⟨S8192x16x32, .f32⟩
  | 95 => ⟨S8192x16x64, .f32⟩
  | 96 => ⟨S8192x16x64, .f32⟩
  | 97 => ⟨S8192x16x32, .f32⟩
  | 98 => ⟨S8192x16x32, .f32⟩
  | 99 => ⟨S8192x1x32, .f32⟩
  | 100 => ⟨S8192x1x32, .f32⟩
  | 101 => ⟨S8192x16x32, .f32⟩
  | 102 => ⟨S8192x16x32, .f32⟩
  | 103 => ⟨S8192x16x32, .f32⟩
  | 104 => ⟨S8192x16x32, .f32⟩
  | 105 => ⟨S8192x16x32, .f32⟩
  | 106 => ⟨S8192x16x32, .f32⟩
  | 107 => ⟨S8192x16x32, .f32⟩
  | 108 => ⟨S8192x16x32, .f32⟩
  | 109 => ⟨S8192x16x32, .f32⟩
  | 110 => ⟨S8192x16x32, .f32⟩
  | 111 => ⟨S8192x16x64, .f32⟩
  | 112 => ⟨S8192x16x128, .f32⟩
  | 113 => ⟨S8192x4x4x128, .f32⟩
  | 114 => ⟨S8192x4x64, .f32⟩
  | 115 => ⟨S8192x4x32, .f32⟩
  | 116 => ⟨S8192x4x32, .f32⟩
  | 117 => ⟨S8192x1x32, .f32⟩
  | 118 => ⟨S8192x1x32, .f32⟩
  | 119 => ⟨S8192x4x32, .f32⟩
  | 120 => ⟨S8192x4x32, .f32⟩
  | 121 => ⟨S8192x4x32, .f32⟩
  | 122 => ⟨S8192x4x32, .f32⟩
  | 123 => ⟨S8192x4x32, .f32⟩
  | 124 => ⟨S8192x4x32, .f32⟩
  | 125 => ⟨S8192x4x32, .f32⟩
  | 126 => ⟨S8192x4x32, .f32⟩
  | 127 => ⟨S8192x4x32, .f32⟩
  | _ => ⟨S8192x8192, .bf16⟩

abbrev hbmTy0_1 (i : Nat) : BufTy := match i % 128 with
  | 0 => ⟨S8192x4x32, .f32⟩
  | 1 => ⟨S8192x4x64, .f32⟩
  | 2 => ⟨S8192x4x64, .f32⟩
  | 3 => ⟨S8192x4x32, .f32⟩
  | 4 => ⟨S8192x4x32, .f32⟩
  | 5 => ⟨S8192x1x32, .f32⟩
  | 6 => ⟨S8192x1x32, .f32⟩
  | 7 => ⟨S8192x4x32, .f32⟩
  | 8 => ⟨S8192x4x32, .f32⟩
  | 9 => ⟨S8192x4x32, .f32⟩
  | 10 => ⟨S8192x4x32, .f32⟩
  | 11 => ⟨S8192x4x32, .f32⟩
  | 12 => ⟨S8192x4x32, .f32⟩
  | 13 => ⟨S8192x4x32, .f32⟩
  | 14 => ⟨S8192x4x32, .f32⟩
  | 15 => ⟨S8192x4x32, .f32⟩
  | 16 => ⟨S8192x4x32, .f32⟩
  | 17 => ⟨S8192x4x64, .f32⟩
  | 18 => ⟨S8192x4x128, .f32⟩
  | 19 => ⟨S4x8192x8192x4, .f32⟩
  | 20 => ⟨S4x4x8192x8192, .f32⟩
  | 21 => ⟨S_, .f32⟩
  | 22 => ⟨S_, .f32⟩
  | 23 => ⟨S4x4x8192x8192, .f32⟩
  | 24 => ⟨S4x4x8192x8192, .f32⟩
  | 25 => ⟨S_, .f32⟩
  | 26 => ⟨S4x4x8192, .f32⟩
  | 27 => ⟨S_, .f32⟩
  | 28 => ⟨S4x4x8192, .f32⟩
  | 29 => ⟨S4x4x8192, .f32⟩
  | 30 => ⟨S4x4x8192x1, .f32⟩
  | 31 => ⟨S4x4x8192x8192, .f32⟩
  | 32 => ⟨S4x4x8192x8192, .f32⟩
  | 33 => ⟨S4x4x8192x8192, .f32⟩
  | 34 => ⟨S_, .f32⟩
  | 35 => ⟨S4x4x8192, .f32⟩
  | 36 => ⟨S4x4x8192x1, .f32⟩
  | 37 => ⟨S4x4x8192x8192, .f32⟩
  | 38 => ⟨S4x4x8192x8192, .f32⟩
  | 39 => ⟨S4x128x4x8192, .f32⟩
  | 40 => ⟨S8192x4x4x128, .f32⟩
  | 41 => ⟨S8192x2048, .f32⟩
  | 42 => ⟨S8192x2048, .bf16⟩
  | _ => ⟨S8192x8192, .bf16⟩

abbrev hbmTy (i : Nat) : BufTy := match i / 128 with
  | 0 => hbmTy0_0 i
  | 1 => hbmTy0_1 i
  | _ => ⟨S8192x8192, .bf16⟩

abbrev bufTy : (tb : Table) → Fin (tcTables nBuf tb) → BufTy
  | .hbm, ⟨i, _⟩ => hbmTy i
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_cst_3 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_7 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_cst_9 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_cst_10 : Ref sig .tc := ⟨.hbm, 153, rfl⟩
abbrev main_v139 : Ref sig .tc := ⟨.hbm, 154, rfl⟩
abbrev main_cst_11 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_cst_12 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .f32⟩
  | .hbm, ⟨3, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .f32⟩
  | .local _ .vmem, ⟨4, _⟩ => ⟨S2048x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x2048 : Shape := ⟨2, ![8192, 2048]⟩
abbrev S1x2048 : Shape := ⟨2, ![1, 2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S2048 : Shape := ⟨1, ![2048]⟩
abbrev S8192x8192 : Shape := ⟨2, ![8192, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x8192, .f32⟩
  | .hbm, ⟨21, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel3.lean ====
abbrev S8192x2048 : Shape := ⟨2, ![8192, 2048]⟩
abbrev S8192x1024 : Shape := ⟨2, ![8192, 1024]⟩
abbrev S8192x8192 : Shape := ⟨2, ![8192, 8192]⟩
abbrev S2048x2048 : Shape := ⟨2, ![2048, 2048]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 6
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x8192, .bf16⟩
  | .hbm, ⟨3, _⟩ => ⟨S2048x2048, .bf16⟩
  | .hbm, ⟨4, _⟩ => ⟨S1024x2048, .bf16⟩
  | .hbm, ⟨5, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | .local _ .vmem, ⟨9, _⟩ => ⟨S2048x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference3Ideal.lean ====
abbrev S8192x2048 : Shape := ⟨2, ![8192, 2048]⟩
abbrev S8192x1024 : Shape := ⟨2, ![8192, 1024]⟩
abbrev S8192x8192 : Shape := ⟨2, ![8192, 8192]⟩
abbrev S2048x2048 : Shape := ⟨2, ![2048, 2048]⟩
abbrev S1024x2048 : Shape := ⟨2, ![1024, 2048]⟩
abbrev S8192x4096 : Shape := ⟨2, ![8192, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .f32⟩
  | .hbm, ⟨2, _⟩ => ⟨S8192x8192, .bf16⟩
  | .hbm, ⟨3, _⟩ => ⟨S2048x2048, .bf16⟩
  | .hbm, ⟨4, _⟩ => ⟨S1024x2048, .bf16⟩
  | .hbm, ⟨5, _⟩ => ⟨S8192x4096, .bf16⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S2048x2048, .f32⟩
  | .hbm, ⟨19, _⟩ => ⟨S8192x2048, .f32⟩
  | .hbm, ⟨20, _⟩ => ⟨S1024x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1x2048 : Shape := ⟨2, ![1, 2048]⟩
abbrev S16x2048 : Shape := ⟨2, ![16, 2048]⟩
abbrev S16x8192 : Shape := ⟨2, ![16, 8192]⟩
abbrev S512x2048 : Shape := ⟨2, ![512, 2048]⟩
abbrev S16x512 : Shape := ⟨2, ![16, 512]⟩
abbrev S512 : Shape := ⟨1, ![512]⟩
abbrev S512x1 : Shape := ⟨2, ![512, 1]⟩
abbrev S1x512 : Shape := ⟨2, ![1, 512]⟩

abbrev nBuf : Space → Nat
  | .hbm => 8
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S16x2048, .bf16⟩
  | .hbm, ⟨5, _⟩ => ⟨S8192x2048, .f32⟩
  | .hbm, ⟨6, _⟩ => ⟨S8192x2048, .f32⟩
  | .hbm, ⟨7, _⟩ => ⟨S16x8192, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S16x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S16x512, .f32⟩
  | .local _ .vmem, ⟨12, _⟩ => ⟨S16x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S8192x2048 : Shape := ⟨2, ![8192, 2048]⟩
abbrev S2048x2048 : Shape := ⟨2, ![2048, 2048]⟩
abbrev S1x2048 : Shape := ⟨2, ![1, 2048]⟩
abbrev S16x2048 : Shape := ⟨2, ![16, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S2048x16 : Shape := ⟨2, ![2048, 16]⟩
abbrev S8192x16 : Shape := ⟨2, ![8192, 16]⟩
abbrev S16x8192 : Shape := ⟨2, ![16, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S1x2048, .f32⟩
  | .hbm, ⟨4, _⟩ => ⟨S16x2048, .bf16⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S16x2048, .f32⟩
  | .hbm, ⟨27, _⟩ => ⟨S2048x16, .f32⟩
  | .hbm, ⟨28, _⟩ => ⟨S8192x16, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192x1, .f32⟩
  | .hbm, ⟨35, _⟩ => ⟨S8192x16, .f32⟩
  | .hbm, ⟨36, _⟩ => ⟨S8192x16, .f32⟩
  | .hbm, ⟨37, _⟩ => ⟨S8192x16, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x16, .f32⟩
  | .hbm, ⟨42, _⟩ => ⟨S8192x16, .f32⟩
  | .hbm, ⟨43, _⟩ => ⟨S16x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== Kernel5.lean ====
abbrev S8192x8192 : Shape := ⟨2, ![8192, 8192]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S256x512 : Shape := ⟨2, ![256, 512]⟩
abbrev S8192x1024 : Shape := ⟨2, ![8192, 1024]⟩
abbrev S512x1024 : Shape := ⟨2, ![512, 1024]⟩
abbrev S512x256 : Shape := ⟨2, ![512, 256]⟩
abbrev S512x512 : Shape := ⟨2, ![512, 512]⟩

abbrev nBuf : Space → Nat
  | .hbm => 40
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S256, .i32⟩
  | .hbm, ⟨2, _⟩ => ⟨S256x1, .i32⟩
  | .hbm, ⟨3, _⟩ => ⟨S256, .i32⟩
  | .hbm, ⟨4, _⟩ => ⟨S1x256, .i32⟩
  | .hbm, ⟨5, _⟩ => ⟨S256x256, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i1⟩
  | .hbm, ⟨19, _⟩ => ⟨S_, .i32⟩
  | .hbm, ⟨20, _⟩ => ⟨S256x256, .i32⟩
  | .hbm, ⟨21, _⟩ => ⟨S256x256, .i1⟩
  | .hbm, ⟨22, _⟩ => ⟨S_, .i32⟩
  | .hbm, ⟨23, _⟩ => ⟨S_, .i1⟩
  | .hbm, ⟨24, _⟩ => ⟨S256x256, .i1⟩
  | .hbm, ⟨25, _⟩ => ⟨S256x256, .i1⟩
  | .hbm, ⟨26, _⟩ => ⟨S256x256, .i1⟩
  | .hbm, ⟨27, _⟩ => ⟨S256x256, .i32⟩
  | .hbm, ⟨28, _⟩ => ⟨S256x256, .i32⟩
  | .hbm, ⟨29, _⟩ => ⟨S256x256, .i32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x512, .f32⟩
  | .hbm, ⟨37, _⟩ => ⟨S256x512, .bf16⟩
  | .hbm, ⟨38, _⟩ => ⟨S8192x1024, .f32⟩
  | .hbm, ⟨39, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S256x512, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v7 : Ref sig .tc := ⟨.hbm, 29, rfl⟩
abbrev main_v8 : Ref sig .tc := ⟨.hbm, 30, rfl⟩
abbrev main_cst : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15_0 : Ref sig .tc := ⟨.hbm, 38, rfl⟩
abbrev main_v15_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x8192 : Shape := ⟨2, ![8192, 8192]⟩
abbrev S8192x1024 : Shape := ⟨2, ![8192, 1024]⟩
abbrev S8192x4x256 : Shape := ⟨3, ![8192, 4, 256]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x1024, .bf16⟩
  | .hbm, ⟨2, _⟩ => ⟨S8192x1024, .f32⟩
  | .hbm, ⟨3, _⟩ => ⟨S8192x4x256, .f32⟩
  | .hbm, ⟨4, _⟩ => ⟨S256, .i32⟩
  | .hbm, ⟨5, _⟩ => ⟨S256x1, .i32⟩
  | .hbm, ⟨6, _⟩ => ⟨S1x256, .i32⟩
  | .hbm, ⟨7, _⟩ => ⟨S256x256, .i32⟩
  | .hbm, ⟨8, _⟩ => ⟨S256x256, .i32⟩
  | .hbm, ⟨9, _⟩ => ⟨S256x256, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S256x256, .i32⟩
  | .hbm, ⟨17, _⟩ => ⟨S256x256, .i32⟩
  | .hbm, ⟨18, _⟩ => ⟨S_, .i32⟩
  | .hbm, ⟨19, _⟩ => ⟨S256x256, .i32⟩
  | .hbm, ⟨20, _⟩ => ⟨S256x256, .i1⟩
  | .hbm, ⟨21, _⟩ => ⟨S_, .i32⟩
  | .hbm, ⟨22, _⟩ => ⟨S256x256, .i32⟩
  | .hbm, ⟨23, _⟩ => ⟨S256x256, .i1⟩
  | .hbm, ⟨24, _⟩ => ⟨S_, .i32⟩
  | .hbm, ⟨25, _⟩ => ⟨S_, .i1⟩
  | .hbm, ⟨26, _⟩ => ⟨S256x256, .i1⟩
  | .hbm, ⟨27, _⟩ => ⟨S256x256, .i1⟩
  | .hbm, ⟨28, _⟩ => ⟨S256x256, .i1⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S256x256, .f32⟩
  | .hbm, ⟨33, _⟩ => ⟨S_, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S8192x4x256, .f32⟩
  | .hbm, ⟨38, _⟩ => ⟨S256x256, .f32⟩
  | .hbm, ⟨39, _⟩ => ⟨S8192x4x256, .f32⟩
  | .hbm, ⟨40, _⟩ => ⟨S8192x1024, .f32⟩
  | .hbm, ⟨41, _⟩ => ⟨S8192x1024, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩

abbrev nD : Nat := 1
abbrev τ : Topo := Topo.v7x

variable {F : FTy → Type} [FloatOps F]
-- ==== Kernel6.lean ====
abbrev S128x64x1024 : Shape := ⟨3, ![128, 64, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x128x1024 : Shape := ⟨3, ![64, 128, 1024]⟩
abbrev S8x64x1024 : Shape := ⟨3, ![8, 64, 1024]⟩
abbrev S64x8x1024 : Shape := ⟨3, ![64, 8, 1024]⟩
abbrev S1x64x1024 : Shape := ⟨3, ![1, 64, 1024]⟩
abbrev S64x1024 : Shape := ⟨2, ![64, 1024]⟩
abbrev S64x1x1024 : Shape := ⟨3, ![64, 1, 1024]⟩

abbrev nBuf : Space → Nat
  | .hbm => 40
  | .vmem => 8
  | .smem => 0
  | _ => 0

abbrev bufTy : (tb : Table) → Fin (tcTables nBuf tb) → BufTy
  | .hbm, ⟨0, _⟩ => ⟨S128x64x1024, .f32⟩
  | .hbm, ⟨1, _⟩ => ⟨S128x64x1024, .f32⟩
  | .hbm, ⟨2, _⟩ => ⟨S64, .i32⟩
  | .hbm, ⟨3, _⟩ => ⟨S64x1, .i32⟩
  | .hbm, ⟨4, _⟩ => ⟨S64, .i32⟩
  | .hbm, ⟨5, _⟩ => ⟨S1x64, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S_, .i32⟩
  | .hbm, ⟨14, _⟩ => ⟨S_, .i32⟩
  | .hbm, ⟨15, _⟩ => ⟨S64x64, .i32⟩
  | .hbm, ⟨16, _⟩ => ⟨S64x64, .i32⟩
  | .hbm, ⟨17, _⟩ => ⟨S_, .i32⟩
  | .hbm, ⟨18, _⟩ => ⟨S64x64, .i32⟩
  | .hbm, ⟨19, _⟩ => ⟨S64x64, .i1⟩
  | .hbm, ⟨20, _⟩ => ⟨S_, .i32⟩
  | .hbm, ⟨21, _⟩ => ⟨S64x64, .i32⟩
  | .hbm, ⟨22, _⟩ => ⟨S64x64, .i1⟩
  | .hbm, ⟨23, _⟩ => ⟨S_, .i32⟩
  | .hbm, ⟨24, _⟩ => ⟨S_, .i1⟩
  | .hbm, ⟨25, _⟩ => ⟨S64x64, .i1⟩
  | .hbm, ⟨26, _⟩ => ⟨S64x64, .i1⟩
  | .hbm, ⟨27, _⟩ => ⟨S64x64, .i1⟩
  | .hbm, ⟨28, _⟩ => ⟨S64x64, .i32⟩
  | .hbm, ⟨29, _⟩ => ⟨S64x64, .i32⟩
  | .hbm, ⟨30, _⟩ => ⟨S64x64, .i32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64, .bf16⟩
  | .hbm, ⟨38, _⟩ => ⟨S64x64, .bf16⟩
  | .hbm, ⟨39, _⟩ => ⟨S64x128x1024, .f32⟩
  | .local _ .vmem, ⟨0, _⟩ => ⟨S8x64x1024, .f32⟩
  | .local _ .vmem, ⟨1, _⟩ => ⟨S8x64x1024, .f32⟩
  | .local _ .vmem, ⟨2, _⟩ => ⟨S8x64x1024, .f32⟩
  | .local _ .vmem, ⟨3, _⟩ => ⟨S8x64x1024, .f32⟩
  | .local _ .vmem, ⟨4, _⟩ => ⟨S64x64, .bf16⟩
  | .local _ .vmem, ⟨5, _⟩ => ⟨S64x64, .bf16⟩
  | .local _ .vmem, ⟨6, _⟩ => ⟨S64x8x1024, .f32⟩
  | .local _ .vmem, ⟨7, _⟩ => ⟨S64x8x1024, .f32⟩
  | _, _ => ⟨S128x64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S64x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel6Ideal.lean ====
variable {F : FTy → Type} [FloatOps F] [Named F]
def κ : String → Option EReal := fun
  | "s_ortho" => some (((Real.sqrt 2097152)⁻¹ : ℝ) : EReal)
  | _ => none
-- ==== Reference6Ideal.lean ====
abbrev S128x64x1024 : Shape := ⟨3, ![128, 64, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S64x128x1024 : Shape := ⟨3, ![64, 128, 1024]⟩

abbrev nBuf : Space → Nat
  | .hbm => 43
  | .vmem => 0
  | .smem => 0
  | _ => 0

abbrev bufTy : (tb : Table) → Fin (tcTables nBuf tb) → BufTy
  | .hbm, ⟨0, _⟩ => ⟨S128x64x1024, .f32⟩
  | .hbm, ⟨1, _⟩ => ⟨S128x64x1024, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S64x64, .i32⟩
  | .hbm, ⟨15, _⟩ => ⟨S64x64, .i32⟩
  | .hbm, ⟨16, _⟩ => ⟨S_, .i32⟩
  | .hbm, ⟨17, _⟩ => ⟨S64x64, .i32⟩
  | .hbm, ⟨18, _⟩ => ⟨S64x64, .i1⟩
  | .hbm, ⟨19, _⟩ => ⟨S_, .i32⟩
  | .hbm, ⟨20, _⟩ => ⟨S64x64, .i32⟩
  | .hbm, ⟨21, _⟩ => ⟨S64x64, .i1⟩
  | .hbm, ⟨22, _⟩ => ⟨S_, .i32⟩
  | .hbm, ⟨23, _⟩ => ⟨S_, .i1⟩
  | .hbm, ⟨24, _⟩ => ⟨S64x64, .i1⟩
  | .hbm, ⟨25, _⟩ => ⟨S64x64, .i1⟩
  | .hbm, ⟨26, _⟩ => ⟨S64x64, .i1⟩
  | .hbm, ⟨27, _⟩ => ⟨S64x64, .i32⟩
  | .hbm, ⟨28, _⟩ => ⟨S64x64, .i32⟩
  | .hbm, ⟨29, _⟩ => ⟨S64x64, .i32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x128x1024, .f32⟩
  | .hbm, ⟨36, _⟩ => ⟨S64x64, .f32⟩
  | .hbm, ⟨37, _⟩ => ⟨S64x128x1024, .f32⟩
  | .hbm, ⟨38, _⟩ => ⟨S64x128x1024, .f32⟩
  | .hbm, ⟨39, _⟩ => ⟨S_, .f32⟩
  | .hbm, ⟨40, _⟩ => ⟨S_, .f32⟩
  | .hbm, ⟨41, _⟩ => ⟨S64x128x1024, .f32⟩
  | .hbm, ⟨42, _⟩ => ⟨S64x128x1024, .f32⟩
  | _, _ => ⟨S128x64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_v5 : Ref sig .tc := ⟨.hbm, 17, rfl⟩
abbrev main_call0_v6 : Ref sig .tc := ⟨.hbm, 18, rfl⟩
abbrev main_call0_c_2 : Ref sig .tc := ⟨.hbm, 19, rfl⟩
abbrev main_call0_v7 : Ref sig .tc := ⟨.hbm, 20, rfl⟩
abbrev main_call0_v8 : Ref sig .tc := ⟨.hbm, 21, rfl⟩
abbrev main_call0_c_3 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_v6 : Ref sig .tc := ⟨.hbm, 29, rfl⟩
abbrev main_v7 : Ref sig .tc := ⟨.hbm, 30, rfl⟩
abbrev main_cst : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩

abbrev nD : Nat := 1
abbrev τ : Topo := Topo.v7x

variable {F : FTy → Type} [FloatOps F]
-- ==== Proof.Pure.lean ====
module

public import proofs.«01_k».proof.Proof.Gen.KernelIdeal.Skeleton
public import Idealize.ShloMosaic.Lib.Pointwise

@[expose] public section

set_option maxRecDepth 16384

noncomputable section

/-! What each vector expression of the two kernels is at an index, over the extended reals. -/

namespace Cert.Attn

open Cert.KernelIdeal Cert.KernelIdeal.Gen Idealize.ShloMosaic Idealize.ShloMosaic.TcCoe Idealize.SL.Sem

/-- The scaled accumulator of one head after one more chunk of keys. -/
theorem accumulate_apply (vt : Vec Ideal S1x1x144x512 .bf16) (a : Vec Ideal S1x144x1024 .f32)
    (p : Vec Ideal S1x512x1024 .bf16) (r : Fin 144) (t : Fin 1024) :
    k1_pay7 vt a p (ix3 0 r t) = a (ix3 0 r t) + ∑ j : Fin 512, vt (ix4 0 0 r j) * p (ix3 0 j t) := by
  pointwise [k1_pay7, k1_pay6]

/-- The unnormalised weights of one chunk of keys. -/
theorem weights_apply (kc : Vec Ideal S512x128 .bf16) (q : Vec Ideal S1x128x1024 .bf16) (j : Fin 512) (t : Fin 1024) :
    k1_pay8 kc q (ix3 0 j t) = Ideal.exp2 (∑ d : Fin 128, kc (ix2 j d) * q (ix3 0 d t)) := by
  pointwise [k1_pay8, k1_pay5]
  rfl

/-- The result of one head: each row of the accumulator over its row 128. -/
theorem finish_apply (a : Vec Ideal S1x144x1024 .f32) (t : Fin 1024) (d : Fin 128) :
    k1_pay2 a (ix2 t d) = Ideal.div (a (ix3 0 ⟨d, by omega⟩ t)) (a (ix3 0 ⟨128, by omega⟩ t)) := by
  pointwise [k1_pay2]

/-- The constant added under the root. -/
def eps : EReal := Ideal.ofBits .f32 0x358637BD#32

/-- The scale of the scores, with the change from base `e` to base 2 folded in. -/
def scale2 : EReal := (((Real.sqrt 128)⁻¹ * (Real.log 2)⁻¹ : ℝ) : EReal)

theorem named_scale2 : Named.named (F := Ideal) κ "s_log2e" (φ := .f32) 0x3E0293EE#32 = scale2 :=
  IdealRules.named_const.ideal_named_scalar _ _ _ _ rfl

/-- One head of 128 entries, divided by its root mean square and scaled entry by entry. -/
def nrm (x g : Fin 128 → EReal) (d : Fin 128) : EReal :=
  x d * Ideal.rsqrt (Ideal.div (∑ e, x e * x e) (Ideal.ofBits .f32 0x43000000#32) + eps) * g d

/-- The entry that the rotation pairs with entry `d`: 32 further in the first half of each 64, 32 back in the second. -/
def mate (d : Fin 128) : Fin 128 :=
  if h : d.val % 64 < 32 then ⟨d.val + 32, by omega⟩ else ⟨d.val - 32, by omega⟩

/-- One normalised and rotated head; the table `s` carries the sign. -/
def rope (x g c s : Fin 128 → EReal) (d : Fin 128) : EReal := nrm x g d * c d + nrm x g (mate d) * s d

theorem qhead_apply (c s : FVec Ideal S128x512 .f32) (g : FVec Ideal S128x1 .f32) (x : Vec Ideal S512x128 .bf16) (d : Fin 128) (t : Fin 512) :
    k0_pay13 c s g x (ix3 0 d t)
      = rope (fun e => x (ix2 t e)) (fun e => g (ix2 e 0)) (fun e => c (ix2 e t)) (fun e => s (ix2 e t)) d * scale2 := by
  pointwise [k0_pay13]
  rw [named_scale2]
  unfold rope nrm eps
  by_cases h1 : d.val < 32
  · rw [dif_pos h1, show mate d = ⟨32 + d, by omega⟩ from Fin.ext (by unfold mate; split <;> simp only <;> omega)]
  rw [dif_neg h1]
  by_cases h2 : d.val - 32 < 32
  · rw [dif_pos h2, show mate d = ⟨d - 32, by omega⟩ from Fin.ext (by unfold mate; split <;> simp only <;> omega)]
  rw [dif_neg h2]
  by_cases h3 : d.val - 32 - 32 < 32
  · rw [dif_pos h3, show mate d = ⟨96 + (d - 32 - 32), by omega⟩ from Fin.ext (by unfold mate; split <;> simp only <;> omega)]
  rw [dif_neg h3, show mate d = ⟨64 + (d - 32 - 32 - 32), by omega⟩ from Fin.ext (by unfold mate; split <;> simp only <;> omega)]

/-- The lane mask of the rotation: the first half of each 64 lanes. -/
def lowHalf (d : BitVec 32) : BitVec 1 :=
  IntOp.cmpi CmpIPredicate.slt
    (Scalar.select
      (IntOp.andi
        (IntOp.xori
          (IntOp.cmpi CmpIPredicate.slt
            (IntOp.remsi ArithUnit.vector d (Scalar.select (Scalar.cmpi CmpIPredicate.eq 64#32 0#32) 1#32 64#32)) 0#32)
          (Scalar.cmpi CmpIPredicate.slt (Scalar.select (Scalar.cmpi CmpIPredicate.eq 64#32 0#32) 1#32 64#32) 0#32))
        (IntOp.cmpi CmpIPredicate.ne
          (IntOp.remsi ArithUnit.vector d (Scalar.select (Scalar.cmpi CmpIPredicate.eq 64#32 0#32) 1#32 64#32)) 0#32))
      (IntOp.addi (IntOp.remsi ArithUnit.vector d (Scalar.select (Scalar.cmpi CmpIPredicate.eq 64#32 0#32) 1#32 64#32))
        (Scalar.select (Scalar.cmpi CmpIPredicate.eq 64#32 0#32) 1#32 64#32))
      (IntOp.remsi ArithUnit.vector d (Scalar.select (Scalar.cmpi CmpIPredicate.eq 64#32 0#32) 1#32 64#32)))
    32#32

theorem lowHalf_eq : ∀ d : Fin 128, lowHalf (BitVec.ofNat 32 d.val) = if d.val % 64 < 32 then 1#1 else 0#1 := by
  decide +kernel

theorem khead_apply (c s : FVec Ideal S512x128 .f32) (g : Vec Ideal S1x128 .f32) (x : Vec Ideal S512x128 .bf16) (d : Fin 128) (t : Fin 512) :
    k0_pay44 c s k0_pay4 x g (ix2 t d)
      = rope (fun e => x (ix2 t e)) (fun e => g (ix2 0 e)) (fun e => c (ix2 t e)) (fun e => s (ix2 t e)) d := by
  pointwise [k0_pay44, k0_pay4]
  change _ + Scalar.select (lowHalf (BitVec.ofNat 32 d.val)) _ _ * _ = _
  rw [lowHalf_eq d]
  unfold rope nrm eps
  by_cases h : d.val % 64 < 32
  · rw [if_pos h, show mate d = ⟨(d + 128 - 96) % 128, by omega⟩ from Fin.ext (by unfold mate; split <;> simp only <;> omega)]
    rfl
  · rw [if_neg h, show mate d = ⟨(d + 128 - 32) % 128, by omega⟩ from Fin.ext (by unfold mate; split <;> simp only <;> omega)]
    rfl

theorem isRow128 : ∀ r : Fin 144, IntOp.cmpi CmpIPredicate.eq (BitVec.ofNat 32 (r.val - 128)) 0#32 = if r.val ≤ 128 then 1#1 else 0#1 := by
  decide +kernel

/-- The transposed values, with a row of ones under them and then rows of zeros. -/
theorem vhead_apply (x : Vec Ideal S512x128 .bf16) (r : Fin 144) (t : Fin 512) :
    k0_pay43 k0_pay41 x (ix4 0 0 r t) = if h : r.val < 128 then x (ix2 t ⟨r, h⟩) else if r.val = 128 then 1 else 0 := by
  pointwise [k0_pay43, k0_pay41]
  by_cases h : r.val < 128
  · rw [dif_pos h, dif_pos h]
  rw [dif_neg h, dif_neg h, isRow128 r]
  by_cases h' : r.val = 128
  · rw [if_pos (by omega), if_pos h']; rfl
  · rw [if_neg (by omega), if_neg h']; rfl

end Cert.Attn

end
-- ==== Proof.RopeBlock.lean ====
module

public import proofs.«01_k».proof.Proof.Gen.KernelIdeal.Frame
public import proofs.«01_k».proof.Proof.Pure
public import Idealize.ShloMosaic.Lib.Pipeline.ValueKit

@[expose] public section

set_option maxRecDepth 16384

noncomputable section

/-! What one grid point of the rotary kernel leaves in its three output blocks. -/

namespace Cert.Attn

open Cert.KernelIdeal Cert.KernelIdeal.Gen Idealize.ShloMosaic Idealize.ShloMosaic.TcCoe Idealize.SL.Sem

/-! Every head's stored value is one chain of operations, cut differently from head to head. -/

section Same
variable (c s : FVec Ideal S128x512 .f32) (g : FVec Ideal S128x1 .f32) (v : Vec Ideal S512x128 .bf16)
theorem same15 : k0_pay40 (k0_pay39 c s g v) = k0_pay13 c s g v := rfl
theorem same14 : k0_pay38 c s g (k0_pay36 v) (k0_pay37 v) = k0_pay13 c s g v := rfl
theorem same13 : k0_pay35 c s g v = k0_pay13 c s g v := rfl
theorem same12 : k0_pay34 c s (k0_pay32 g v) (k0_pay33 g v) = k0_pay13 c s g v := rfl
theorem same11 : k0_pay31 c s g (k0_pay30 v) = k0_pay13 c s g v := rfl
theorem same10 : k0_pay29 c s g v = k0_pay13 c s g v := rfl
theorem same9 : k0_pay28 c s (k0_pay25 g v) (k0_pay26 g v) (k0_pay27 g v) = k0_pay13 c s g v := rfl
theorem same8 : k0_pay24 c s g v = k0_pay13 c s g v := rfl
theorem same7 : k0_pay23 c s g v = k0_pay13 c s g v := rfl
theorem same6 : k0_pay22 c s (k0_pay20 v) (k0_pay21 g) = k0_pay13 c s g v := rfl
theorem same5 : k0_pay19 c s g v = k0_pay13 c s g v := rfl
theorem same4 : k0_pay18 (k0_pay17 c s g v) = k0_pay13 c s g v := rfl
theorem same3 : k0_pay16 c s g (k0_pay14 v) (k0_pay15 v) = k0_pay13 c s g v := rfl
theorem same1 : k0_pay12 (k0_pay11 c s g v) = k0_pay13 c s g v := rfl
theorem same0 : k0_pay10 c s g (k0_pay8 v) (k0_pay9 v) (Scalar.ofBits .f32 0x358637BD#32) = k0_pay13 c s g v := rfl
end Same

section SameK
variable (c s : FVec Ideal S512x128 .f32) (l : IVec S1x128 1) (v : Vec Ideal S512x128 .bf16) (g : Vec Ideal S1x128 .f32) (z : FVec Ideal S16x512 .f32)
theorem same_k3 : k0_pay50 c s l (k0_pay49 v) g = k0_pay44 c s l v g := rfl
theorem same_k2 : k0_pay47 c s l v g = k0_pay44 c s l v g := rfl
theorem same_k0 : k0_pay42 c s l v g = k0_pay44 c s l v g := rfl
theorem same_v3 : k0_pay1 (k0_pay51 z v) = k0_pay43 z v := rfl
theorem same_v2 : k0_pay48 z v = k0_pay43 z v := rfl
theorem same_v1 : k0_pay46 (k0_pay45 z v) = k0_pay43 z v := rfl
end SameK

/-- One query head's stored value, at an index given by its coordinates. -/
theorem qpiece (c s : FVec Ideal S128x512 .f32) (g : FVec Ideal S128x1 .f32) (X : Vec Ideal S512x128 .bf16) (x : S1x128x512.Idx)
    (d : Fin 128) (t : Fin 512) (f cc ss gg : Fin 128 → EReal) (hd : d.val = (x 1).val) (ht : t.val = (x 2).val)
    (hf : ∀ e, X (ix2 t e) = f e) (hg : ∀ e, g (ix2 e 0) = gg e) (hc : ∀ e, c (ix2 e t) = cc e) (hs : ∀ e, s (ix2 e t) = ss e) :
    k0_pay13 c s g X x = rope f gg cc ss d * scale2 := by
  idx_vars x
  obtain rfl : d = x1 := Fin.ext hd
  obtain rfl : t = x2 := Fin.ext ht
  obtain rfl : x0 = 0 := Subsingleton.elim _ _
  obtain rfl : (fun e => X (ix2 t e)) = f := funext hf
  obtain rfl : (fun e => g (ix2 e 0)) = gg := funext hg
  obtain rfl : (fun e => c (ix2 e t)) = cc := funext hc
  obtain rfl : (fun e => s (ix2 e t)) = ss := funext hs
  exact qhead_apply c s g X d t

theorem kpiece (c s : FVec Ideal S512x128 .f32) (g : Vec Ideal S1x128 .f32) (X : Vec Ideal S512x128 .bf16) (x : S512x128.Idx)
    (d : Fin 128) (t : Fin 512) (f cc ss gg : Fin 128 → EReal) (hd : d.val = (x 1).val) (ht : t.val = (x 0).val)
    (hf : ∀ e, X (ix2 t e) = f e) (hg : ∀ e, g (ix2 0 e) = gg e) (hc : ∀ e, c (ix2 t e) = cc e) (hs : ∀ e, s (ix2 t e) = ss e) :
    k0_pay44 c s k0_pay4 X g x = rope f gg cc ss d := by
  idx_vars x
  obtain rfl : d = x1 := Fin.ext hd
  obtain rfl : t = x0 := Fin.ext ht
  obtain rfl : (fun e => X (ix2 t e)) = f := funext hf
  obtain rfl : (fun e => g (ix2 0 e)) = gg := funext hg
  obtain rfl : (fun e => c (ix2 t e)) = cc := funext hc
  obtain rfl : (fun e => s (ix2 t e)) = ss := funext hs
  exact khead_apply c s g X d t

/-- A value head with its row of ones and the rows of zeros below it. -/
def padded (f : Fin 128 → EReal) (r : Fin 144) : EReal := if h : r.val < 128 then f ⟨r.val, h⟩ else if r.val = 128 then 1 else 0

theorem vpiece (X : Vec Ideal S512x128 .bf16) (x : S1x1x144x512.Idx) (r : Fin 144) (t : Fin 512) (f : Fin 128 → EReal)
    (hr : r.val = (x 2).val) (ht : t.val = (x 3).val) (hf : ∀ e, X (ix2 t e) = f e) :
    k0_pay43 k0_pay41 X x = padded f r := by
  idx_vars x
  obtain rfl : r = x2 := Fin.ext hr
  obtain rfl : t = x3 := Fin.ext ht
  obtain rfl : x0 = 0 := Subsingleton.elim _ _
  obtain rfl : x1 = 0 := Subsingleton.elim _ _
  obtain rfl : (fun e => X (ix2 t e)) = f := funext hf
  exact vhead_apply X r t

variable (b0 : Vec Ideal S512x2048 .bf16) (b1 b2 : Vec Ideal S512x512 .bf16) (b3 : Vec Ideal S128x1 .f32) (b4 : Vec Ideal S1x128 .f32)
  (b5 b6 : Vec Ideal S512x128 .f32) (b7 b8 : Vec Ideal S128x512 .f32)

theorem qout_apply (H : Fin 16) (d : Fin 128) (t : Fin 512) :
    out0_9 b0 b1 b2 b3 b4 b5 b6 b7 b8 (ix3 H d t)
      = rope (fun e => b0 (ix2 t ⟨H.val * 128 + e.val, by omega⟩)) (fun e => b3 (ix2 e 0)) (fun e => b7 (ix2 e t)) (fun e => b8 (ix2 e t)) d * scale2 := by
  canon_tiles x h
  all_goals try simp only [same0, same1, same3, same4, same5, same6, same7, same8, same9, same10, same11, same12, same13, same14, same15]
  all_goals refine qpiece _ _ _ _ x d t _ _ _ _ h1 h2 (fun e => ?_) (fun e => ?_) (fun e => ?_) (fun e => ?_)
  all_goals first
    | (pointwise [k0_pay55, k0_pay5]; done)
    | (pointwise [k0_pay56, k0_pay6]; done)
    | (pointwise [k0_pay57, k0_pay7]; done)
    | (pointwise
       have e0 : H.val = _ := h0
       exact congrArg (fun m : Fin 2048 => b0 (ix2 t m)) (Fin.ext (by dsimp only; omega)))

theorem kout_apply (G : Fin 4) (d : Fin 128) (t : Fin 512) :
    out0_10 b0 b1 b2 b3 b4 b5 b6 b7 b8 (ix2 t ⟨G.val * 128 + d.val, by omega⟩)
      = rope (fun e => b1 (ix2 t ⟨G.val * 128 + e.val, by omega⟩)) (fun e => b4 (ix2 0 e)) (fun e => b5 (ix2 t e)) (fun e => b6 (ix2 t e)) d := by
  canon_tiles x h
  all_goals
    try simp only [same_k0, same_k2, same_k3]
    have e1 : G.val * 128 + d.val = _ := h1
    refine kpiece _ _ _ _ x d t _ _ _ _ (by omega) h0 (fun e => ?_) (fun e => ?_) (fun e => ?_) (fun e => ?_)
  all_goals first
    | (pointwise [k0_pay52, k0_pay2]; done)
    | (pointwise [k0_pay53, k0_pay3]; done)
    | (pointwise; exact congrArg (fun m : Fin 512 => b1 (ix2 t m)) (Fin.ext (by dsimp only; omega)))

theorem vout_apply (G : Fin 4) (r : Fin 144) (t : Fin 512) :
    out0_11 b0 b1 b2 b3 b4 b5 b6 b7 b8 (ix4 G 0 r t) = padded (fun e => b2 (ix2 t ⟨G.val * 128 + e.val, by omega⟩)) r := by
  canon_tiles x h
  all_goals
    try simp only [same_v1, same_v2, same_v3]
    have e0 : G.val = _ := h0
    refine vpiece _ x r t _ h2 h3 (fun e => ?_)
    pointwise
    exact congrArg (fun m : Fin 512 => b2 (ix2 t m)) (Fin.ext (by dsimp only; omega))

end Cert.Attn

end
-- ==== Proof.RopeArray.lean ====
module

public import proofs.«01_k».proof.Proof.RopeBlock

@[expose] public section

set_option maxRecDepth 16384

noncomputable section

/-! The three whole arrays the rotary kernel leaves. -/

namespace Cert.Attn

open Cert.KernelIdeal Cert.KernelIdeal.Gen Idealize.ShloMosaic Idealize.ShloMosaic.TcCoe Idealize.SL.Sem

/-- The scaled rotated queries, transposed: head, coordinate, token. -/
def qArr (P : S8192x8192.Idx → EReal) (g : S128x1.Idx → EReal) (c s : S128x8192.Idx → EReal) (h : Fin 16) (d : Fin 128) (T : Fin 8192) : EReal :=
  rope (fun e => P (ix2 T ⟨h.val * 128 + e.val, by omega⟩)) (fun e => g (ix2 e 0)) (fun e => c (ix2 e T)) (fun e => s (ix2 e T)) d * scale2

/-- The rotated keys: token, column. -/
def kArr (P : S8192x8192.Idx → EReal) (g : S1x128.Idx → EReal) (c s : S8192x128.Idx → EReal) (T : Fin 8192) (n : Fin 512) : EReal :=
  rope (fun e => P (ix2 T ⟨2048 + n.val / 128 * 128 + e.val, by omega⟩)) (fun e => g (ix2 0 e)) (fun e => c (ix2 T e)) (fun e => s (ix2 T e)) ⟨n.val % 128, by omega⟩

/-- The values with their row of ones: group, chunk, row, token within the chunk. -/
def vArr (P : S8192x8192.Idx → EReal) (G : Fin 4) (n : Fin 16) (r : Fin 144) (j : Fin 512) : EReal :=
  padded (fun e => P (ix2 ⟨n.val * 512 + j.val, by omega⟩ ⟨2560 + G.val * 128 + e.val, by omega⟩)) r

theorem index0_0 : ∀ t : Fin grid0.N, win0_0.index t = ![t.val, 0] := by decide +kernel
theorem index0_1 : ∀ t : Fin grid0.N, win0_1.index t = ![t.val, 4] := by decide +kernel
theorem index0_2 : ∀ t : Fin grid0.N, win0_2.index t = ![t.val, 5] := by decide +kernel
theorem index0_3 : ∀ t : Fin grid0.N, win0_3.index t = ![0, 0] := by decide +kernel
theorem index0_4 : ∀ t : Fin grid0.N, win0_4.index t = ![0, 0] := by decide +kernel
theorem index0_5 : ∀ t : Fin grid0.N, win0_5.index t = ![t.val, 0] := by decide +kernel
theorem index0_6 : ∀ t : Fin grid0.N, win0_6.index t = ![t.val, 0] := by decide +kernel
theorem index0_7 : ∀ t : Fin grid0.N, win0_7.index t = ![0, t.val] := by decide +kernel
theorem index0_8 : ∀ t : Fin grid0.N, win0_8.index t = ![0, t.val] := by decide +kernel
theorem index0_9 : ∀ t : Fin grid0.N, win0_9.index t = ![0, 0, t.val] := by decide +kernel
theorem index0_10 : ∀ t : Fin grid0.N, win0_10.index t = ![t.val, 0] := by decide +kernel
theorem index0_11 : ∀ t : Fin grid0.N, win0_11.index t = ![0, t.val, 0, 0] := by decide +kernel

theorem point0_lt (t : Fin cfg0.N) : t.val < 16 := lt_of_lt_of_eq t.isLt (by decide +kernel)

variable (V : (c : Dev nD) → (b : Ref sig .tc) → Buf (Elt Ideal) ((c : Thread nD τ).loc b)) (c : Dev nD)

section Blocks
variable (t : Fin cfg0.N) (u : Fin 512) (d : Fin 128)

theorem block0 (m : Fin 2048) : iblk0 (F := Ideal) V c 0 t (ix2 u m) = V c main_arg0 (ix2 ⟨t.val * 512 + u.val, by have := point0_lt t; omega⟩ ⟨m.val, by omega⟩) := by
  blk_simp [iblk0]
  refine congrArg (V c main_arg0) (funext fun a => Fin.ext ?_)
  match a with
  | ⟨0, _⟩ => blk_simp [index0_0]
  | ⟨1, _⟩ => blk_simp [index0_0]

theorem block1 (m : Fin 512) : iblk0 (F := Ideal) V c 1 t (ix2 u m) = V c main_arg0 (ix2 ⟨t.val * 512 + u.val, by have := point0_lt t; omega⟩ ⟨2048 + m.val, by omega⟩) := by
  blk_simp [iblk0]
  refine congrArg (V c main_arg0) (funext fun a => Fin.ext ?_)
  match a with
  | ⟨0, _⟩ => blk_simp [index0_1]
  | ⟨1, _⟩ => blk_simp [index0_1]

theorem block2 (m : Fin 512) : iblk0 (F := Ideal) V c 2 t (ix2 u m) = V c main_arg0 (ix2 ⟨t.val * 512 + u.val, by have := point0_lt t; omega⟩ ⟨2560 + m.val, by omega⟩) := by
  blk_simp [iblk0]
  refine congrArg (V c main_arg0) (funext fun a => Fin.ext ?_)
  match a with
  | ⟨0, _⟩ => blk_simp [index0_2]
  | ⟨1, _⟩ => blk_simp [index0_2]

theorem block3 : iblk0 (F := Ideal) V c 3 t (ix2 d 0) = V c main_v42 (ix2 d 0) := by
  blk_simp [iblk0]
  refine congrArg (V c main_v42) (funext fun a => Fin.ext ?_)
  match a with
  | ⟨0, _⟩ => blk_simp [index0_3]
  | ⟨1, _⟩ => blk_simp [index0_3] <;> rfl

theorem block4 : iblk0 (F := Ideal) V c 4 t (ix2 0 d) = V c main_arg2 (ix2 0 d) := by
  blk_simp [iblk0]
  refine congrArg (V c main_arg2) (funext fun a => Fin.ext ?_)
  match a with
  | ⟨0, _⟩ => blk_simp [index0_4] <;> rfl
  | ⟨1, _⟩ => blk_simp [index0_4]

theorem block5 : iblk0 (F := Ideal) V c 5 t (ix2 u d) = V c main_v36 (ix2 ⟨t.val * 512 + u.val, by have := point0_lt t; omega⟩ d) := by
  blk_simp [iblk0]
  refine congrArg (V c main_v36) (funext fun a => Fin.ext ?_)
  match a with
  | ⟨0, _⟩ => blk_simp [index0_5]
  | ⟨1, _⟩ => blk_simp [index0_5]

theorem block6 : iblk0 (F := Ideal) V c 6 t (ix2 u d) = V c main_v39 (ix2 ⟨t.val * 512 + u.val, by have := point0_lt t; omega⟩ d) := by
  blk_simp [iblk0]
  refine congrArg (V c main_v39) (funext fun a => Fin.ext ?_)
  match a with
  | ⟨0, _⟩ => blk_simp [index0_6]
  | ⟨1, _⟩ => blk_simp [index0_6]

theorem block7 : iblk0 (F := Ideal) V c 7 t (ix2 d u) = V c main_v40 (ix2 d ⟨t.val * 512 + u.val, by have := point0_lt t; omega⟩) := by
  blk_simp [iblk0]
  refine congrArg (V c main_v40) (funext fun a => Fin.ext ?_)
  match a with
  | ⟨0, _⟩ => blk_simp [index0_7]
  | ⟨1, _⟩ => blk_simp [index0_7]

theorem block8 : iblk0 (F := Ideal) V c 8 t (ix2 d u) = V c main_v41 (ix2 d ⟨t.val * 512 + u.val, by have := point0_lt t; omega⟩) := by
  blk_simp [iblk0]
  refine congrArg (V c main_v41) (funext fun a => Fin.ext ?_)
  match a with
  | ⟨0, _⟩ => blk_simp [index0_8]
  | ⟨1, _⟩ => blk_simp [index0_8]

end Blocks

theorem array0_q : (dat0 (F := Ideal) V c).arrAt 9 cfg0.N
    = fun y : S16x128x8192.Idx => qArr (V c main_arg0) (V c main_v42) (V c main_v40) (V c main_v41) (y 0) (y 1) (y 2) := by
  refine (dat0 (F := Ideal) V c).arrAt_eq_of_covers 9 _ (by decide +kernel) fun t hf y => ?_
  blk_simp
  rw [after0_9]
  have hN := point0_lt t
  change S16x128x512.Idx at y
  idx_vars y
  have hb : t.val * 512 + y2.val < 8192 := by omega
  refine (qout_apply _ _ _ _ _ _ _ _ _ y0 y1 y2).trans ?_
  have e0 : (((View.whole main_v43_0).slice (win0_9.rect t)).emb (ix3 y0 y1 y2) 0).val = y0.val := by blk_simp [index0_9]
  have e1 : (((View.whole main_v43_0).slice (win0_9.rect t)).emb (ix3 y0 y1 y2) 1).val = y1.val := by blk_simp [index0_9]
  have e2 : (((View.whole main_v43_0).slice (win0_9.rect t)).emb (ix3 y0 y1 y2) 2).val = t.val * 512 + y2.val := by blk_simp [index0_9]
  generalize ((View.whole main_v43_0).slice (win0_9.rect t)).emb (ix3 y0 y1 y2) 0 = H at e0 ⊢
  generalize ((View.whole main_v43_0).slice (win0_9.rect t)).emb (ix3 y0 y1 y2) 1 = D at e1 ⊢
  generalize ((View.whole main_v43_0).slice (win0_9.rect t)).emb (ix3 y0 y1 y2) 2 = T at e2 ⊢
  obtain rfl : y0 = H := Fin.ext e0.symm
  obtain rfl : y1 = D := Fin.ext e1.symm
  obtain rfl : T = ⟨t.val * 512 + y2.val, hb⟩ := Fin.ext e2
  unfold qArr
  simp only [block0, block3, block7, block8]
  rfl

theorem array0_k : (dat0 (F := Ideal) V c).arrAt 10 cfg0.N
    = fun y : S8192x512.Idx => kArr (V c main_arg0) (V c main_arg2) (V c main_v36) (V c main_v39) (y 0) (y 1) := by
  refine (dat0 (F := Ideal) V c).arrAt_eq_of_covers 10 _ (by decide +kernel) fun t hf y => ?_
  blk_simp
  rw [after0_10]
  have hN := point0_lt t
  change S512x512.Idx at y
  idx_vars y
  have hb : t.val * 512 + y0.val < 8192 := by omega
  have hn : y1 = ⟨(⟨y1.val / 128, by omega⟩ : Fin 4).val * 128 + (⟨y1.val % 128, by omega⟩ : Fin 128).val, by show y1.val / 128 * 128 + y1.val % 128 < 512; omega⟩ :=
    Fin.ext (by show y1.val = y1.val / 128 * 128 + y1.val % 128; omega)
  refine (congrArg _ (congrArg (fun m : Fin 512 => ix2 y0 m) hn)).trans
    ((kout_apply _ _ _ _ _ _ _ _ _ ⟨y1.val / 128, by omega⟩ ⟨y1.val % 128, by omega⟩ y0).trans ?_)
  have e0 : (((View.whole main_v43_1).slice (win0_10.rect t)).emb (ix2 y0 y1) 0).val = t.val * 512 + y0.val := by blk_simp [index0_10]
  have e1 : (((View.whole main_v43_1).slice (win0_10.rect t)).emb (ix2 y0 y1) 1).val = y1.val := by blk_simp [index0_10]
  generalize ((View.whole main_v43_1).slice (win0_10.rect t)).emb (ix2 y0 y1) 0 = T at e0 ⊢
  generalize ((View.whole main_v43_1).slice (win0_10.rect t)).emb (ix2 y0 y1) 1 = N at e1 ⊢
  obtain rfl : y1 = N := Fin.ext e1.symm
  obtain rfl : T = ⟨t.val * 512 + y0.val, hb⟩ := Fin.ext e0
  unfold kArr
  simp only [block1, block4, block5, block6, ← Nat.add_assoc]
  rfl

theorem array0_v : (dat0 (F := Ideal) V c).arrAt 11 cfg0.N
    = fun y : S4x16x144x512.Idx => vArr (V c main_arg0) (y 0) (y 1) (y 2) (y 3) := by
  refine (dat0 (F := Ideal) V c).arrAt_eq_of_covers 11 _ (by decide +kernel) fun t hf y => ?_
  blk_simp
  rw [after0_11]
  have hN := point0_lt t
  change S4x1x144x512.Idx at y
  idx_vars y
  obtain rfl : y1 = 0 := Subsingleton.elim _ _
  refine (vout_apply _ _ _ _ _ _ _ _ _ y0 y2 y3).trans ?_
  have e0 : (((View.whole main_v43_2).slice (win0_11.rect t)).emb (ix4 y0 0 y2 y3) 0).val = y0.val := by blk_simp [index0_11]
  have e1 : (((View.whole main_v43_2).slice (win0_11.rect t)).emb (ix4 y0 0 y2 y3) 1).val = t.val := by blk_simp [index0_11] <;> rfl
  have e2 : (((View.whole main_v43_2).slice (win0_11.rect t)).emb (ix4 y0 0 y2 y3) 2).val = y2.val := by blk_simp [index0_11]
  have e3 : (((View.whole main_v43_2).slice (win0_11.rect t)).emb (ix4 y0 0 y2 y3) 3).val = y3.val := by blk_simp [index0_11]
  generalize ((View.whole main_v43_2).slice (win0_11.rect t)).emb (ix4 y0 0 y2 y3) 0 = A at e0 ⊢
  generalize ((View.whole main_v43_2).slice (win0_11.rect t)).emb (ix4 y0 0 y2 y3) 1 = B at e1 ⊢
  generalize ((View.whole main_v43_2).slice (win0_11.rect t)).emb (ix4 y0 0 y2 y3) 2 = C at e2 ⊢
  generalize ((View.whole main_v43_2).slice (win0_11.rect t)).emb (ix4 y0 0 y2 y3) 3 = D at e3 ⊢
  obtain rfl : y0 = A := Fin.ext e0.symm
  obtain rfl : B = ⟨t.val, hN⟩ := Fin.ext e1
  obtain rfl : y2 = C := Fin.ext e2.symm
  obtain rfl : y3 = D := Fin.ext e3.symm
  unfold vArr
  simp only [block2, ← Nat.add_assoc]

end Cert.Attn

end
-- ==== Proof.Tables.lean ====
module

public import proofs.«01_k».proof.Proof.RopeArray

@[expose] public section

set_option maxRecDepth 16384

noncomputable section

/-! The rotary tables that the host computes before the first kernel. -/

namespace Cert.Attn

open Cert.KernelIdeal Cert.KernelIdeal.Gen Idealize.ShloMosaic Idealize.ShloMosaic.TcCoe Idealize.SL.Sem

/-- The rotation angle at position `p` and frequency number `i`: `p · 10000^(−2i/64)`. -/
def angle (p i : ℕ) : EReal :=
  FloatOps.sitofp (F := Ideal) FTy.f32 (BitVec.ofNat 32 p) *
    Ideal.pow (Ideal.ofBits FTy.f32 1176256512#32)
      (Ideal.div (-(Ideal.ofBits FTy.f32 1073741824#32 * FloatOps.sitofp (F := Ideal) FTy.f32 (BitVec.ofNat 32 i))) (Ideal.ofBits FTy.f32 1115684864#32))

/-- The angle that lane `e` of token `T` is turned by: the token's row for the first half of the lanes, its column for the second. -/
def turn (T : Fin 8192) (e : Fin 128) : EReal :=
  if e.val < 64 then angle (T.val / 64) (e.val % 32) else angle (T.val % 64) (e.val % 32)

def cosTab (T : Fin 8192) (e : Fin 128) : EReal := Ideal.cos (turn T e)

/-- The sine with the sign that the rotation gives it: minus in the first half of each pair. -/
def sinTab (T : Fin 8192) (e : Fin 128) : EReal := if e.val % 64 < 32 then -Ideal.sin (turn T e) else Ideal.sin (turn T e)

theorem cosTab_row (T : Fin 8192) (e : Fin 128) (n : ℕ) (h : e.val < 64) (hn : e.val % 32 = n) : Ideal.cos (angle (T.val / 64) n) = cosTab T e := by
  unfold cosTab turn; rw [if_pos h, hn]

theorem cosTab_col (T : Fin 8192) (e : Fin 128) (n : ℕ) (h : ¬ e.val < 64) (hn : e.val % 32 = n) : Ideal.cos (angle (T.val % 64) n) = cosTab T e := by
  unfold cosTab turn; rw [if_neg h, hn]

theorem sinTab_row (T : Fin 8192) (e : Fin 128) (n : ℕ) (h : e.val < 64) (h' : ¬ e.val % 64 < 32) (hn : e.val % 32 = n) : Ideal.sin (angle (T.val / 64) n) = sinTab T e := by
  unfold sinTab turn; rw [if_neg h', if_pos h, hn]

theorem sinTab_row_neg (T : Fin 8192) (e : Fin 128) (n : ℕ) (h : e.val < 64) (h' : e.val % 64 < 32) (hn : e.val % 32 = n) : -Ideal.sin (angle (T.val / 64) n) = sinTab T e := by
  unfold sinTab turn; rw [if_pos h', if_pos h, hn]

theorem sinTab_col (T : Fin 8192) (e : Fin 128) (n : ℕ) (h : ¬ e.val < 64) (h' : ¬ e.val % 64 < 32) (hn : e.val % 32 = n) : Ideal.sin (angle (T.val % 64) n) = sinTab T e := by
  unfold sinTab turn; rw [if_neg h', if_neg h, hn]

theorem sinTab_col_neg (T : Fin 8192) (e : Fin 128) (n : ℕ) (h : ¬ e.val < 64) (h' : e.val % 64 < 32) (hn : e.val % 32 = n) : -Ideal.sin (angle (T.val % 64) n) = sinTab T e := by
  unfold sinTab turn; rw [if_pos h', if_neg h, hn]

/-! The host's operations in three stretches: up to the quarter tables, the first joined table with the two negations, the rest. -/

abbrev opsA : List (HloOp τ sig (Elt Ideal)) := hostOps0.take 40
abbrev opsB : List (HloOp τ sig (Elt Ideal)) := (hostOps0.drop 40).take 3
abbrev opsC : List (HloOp τ sig (Elt Ideal)) := hostOps0.drop 43

variable (σ : Valuation τ sig (Elt Ideal))

theorem stretches : StableHlo.after (hostOps0 (F := Ideal)) σ = StableHlo.after opsC (StableHlo.after opsB (StableHlo.after opsA σ)) := rfl

theorem quarter_row_cos (T : Fin 8192) (e : Fin 32) : StableHlo.after opsA σ (Proc.devRef .tc main_v25) (ix2 T e) = Ideal.cos (angle (T.val / 64) e.val) := by
  simp only [opsA, hostOps0, List.take_succ_cons, List.take_zero]
  after_results
  pointwise
  rfl

theorem quarter_row_sin (T : Fin 8192) (e : Fin 32) : StableHlo.after opsA σ (Proc.devRef .tc main_v27) (ix2 T e) = Ideal.sin (angle (T.val / 64) e.val) := by
  simp only [opsA, hostOps0, List.take_succ_cons, List.take_zero]
  after_results
  pointwise
  rfl

theorem quarter_col_cos (T : Fin 8192) (e : Fin 32) : StableHlo.after opsA σ (Proc.devRef .tc main_v32) (ix2 T e) = Ideal.cos (angle (T.val % 64) e.val) := by
  simp only [opsA, hostOps0, List.take_succ_cons, List.take_zero]
  after_results
  pointwise
  rfl

theorem quarter_col_sin (T : Fin 8192) (e : Fin 32) : StableHlo.after opsA σ (Proc.devRef .tc main_v35) (ix2 T e) = Ideal.sin (angle (T.val % 64) e.val) := by
  simp only [opsA, hostOps0, List.take_succ_cons, List.take_zero]
  after_results
  pointwise
  rfl

/-- The first joined table: cosines of the row, twice, then of the column, twice. -/
theorem joined_cos (T : Fin 8192) (e : Fin 128) : StableHlo.after opsB (StableHlo.after opsA σ) (Proc.devRef .tc main_v36) (ix2 T e) = cosTab T e := by
  have h1 := quarter_row_cos σ T
  have h2 := quarter_col_cos σ T
  generalize StableHlo.after opsA σ = σ' at h1 h2 ⊢
  simp only [opsB, hostOps0, List.drop_succ_cons, List.drop_zero, List.take_succ_cons, List.take_zero]
  after_results
  pointwise
  by_cases a0 : e.val < 32
  · rw [dif_pos a0]
    exact (h1 ⟨e.val, a0⟩).trans (cosTab_row T e _ (by omega) (by dsimp only; omega))
  rw [dif_neg a0]
  by_cases a1 : e.val - 32 < 32
  · rw [dif_pos a1]
    exact (h1 ⟨e.val - 32, a1⟩).trans (cosTab_row T e _ (by omega) (by dsimp only; omega))
  rw [dif_neg a1]
  by_cases a2 : e.val - 32 - 32 < 32
  · rw [dif_pos a2]
    exact (h2 ⟨e.val - 32 - 32, a2⟩).trans (cosTab_col T e _ (by omega) (by dsimp only; omega))
  rw [dif_neg a2]
  exact (h2 ⟨e.val - 32 - 32 - 32, by omega⟩).trans (cosTab_col T e _ (by omega) (by dsimp only; omega))

theorem kept_row (T : Fin 8192) (e : Fin 32) : StableHlo.after opsB (StableHlo.after opsA σ) (Proc.devRef .tc main_v27) (ix2 T e) = Ideal.sin (angle (T.val / 64) e.val) := by
  have h := quarter_row_sin σ T e
  generalize StableHlo.after opsA σ = σ' at h ⊢
  simp only [opsB, hostOps0, List.drop_succ_cons, List.drop_zero, List.take_succ_cons, List.take_zero]
  after_results
  exact h

theorem kept_col (T : Fin 8192) (e : Fin 32) : StableHlo.after opsB (StableHlo.after opsA σ) (Proc.devRef .tc main_v35) (ix2 T e) = Ideal.sin (angle (T.val % 64) e.val) := by
  have h := quarter_col_sin σ T e
  generalize StableHlo.after opsA σ = σ' at h ⊢
  simp only [opsB, hostOps0, List.drop_succ_cons, List.drop_zero, List.take_succ_cons, List.take_zero]
  after_results
  exact h

theorem negated_row (T : Fin 8192) (e : Fin 32) : StableHlo.after opsB (StableHlo.after opsA σ) (Proc.devRef .tc main_v37) (ix2 T e) = -Ideal.sin (angle (T.val / 64) e.val) := by
  have h := quarter_row_sin σ T e
  generalize StableHlo.after opsA σ = σ' at h ⊢
  simp only [opsB, hostOps0, List.drop_succ_cons, List.drop_zero, List.take_succ_cons, List.take_zero]
  after_results
  pointwise
  exact congrArg (fun r : EReal => -r) h

theorem negated_col (T : Fin 8192) (e : Fin 32) : StableHlo.after opsB (StableHlo.after opsA σ) (Proc.devRef .tc main_v38) (ix2 T e) = -Ideal.sin (angle (T.val % 64) e.val) := by
  have h := quarter_col_sin σ T e
  generalize StableHlo.after opsA σ = σ' at h ⊢
  simp only [opsB, hostOps0, List.drop_succ_cons, List.drop_zero, List.take_succ_cons, List.take_zero]
  after_results
  pointwise
  exact congrArg (fun r : EReal => -r) h

theorem table_cos (T : Fin 8192) (e : Fin 128) : StableHlo.after (hostOps0 (F := Ideal)) σ (Proc.devRef .tc main_v36) (ix2 T e) = cosTab T e := by
  rw [stretches]
  have h := joined_cos σ T e
  generalize StableHlo.after opsB (StableHlo.after opsA σ) = σ' at h ⊢
  simp only [opsC, hostOps0, List.drop_succ_cons, List.drop_zero]
  after_results
  exact h

theorem table_cos_t (T : Fin 8192) (e : Fin 128) : StableHlo.after (hostOps0 (F := Ideal)) σ (Proc.devRef .tc main_v40) (ix2 e T) = cosTab T e := by
  rw [stretches]
  have h := joined_cos σ T e
  generalize StableHlo.after opsB (StableHlo.after opsA σ) = σ' at h ⊢
  simp only [opsC, hostOps0, List.drop_succ_cons, List.drop_zero]
  after_results
  pointwise
  exact h

theorem table_sin (T : Fin 8192) (e : Fin 128) : StableHlo.after (hostOps0 (F := Ideal)) σ (Proc.devRef .tc main_v39) (ix2 T e) = sinTab T e := by
  rw [stretches]
  have h1 := kept_row σ T
  have h2 := kept_col σ T
  have h3 := negated_row σ T
  have h4 := negated_col σ T
  generalize StableHlo.after opsB (StableHlo.after opsA σ) = σ' at h1 h2 h3 h4 ⊢
  simp only [opsC, hostOps0, List.drop_succ_cons, List.drop_zero]
  after_results
  pointwise
  by_cases a0 : e.val < 32
  · rw [dif_pos a0]
    exact (h3 ⟨e.val, a0⟩).trans (sinTab_row_neg T e _ (by omega) (by omega) (by dsimp only; omega))
  rw [dif_neg a0]
  by_cases a1 : e.val - 32 < 32
  · rw [dif_pos a1]
    exact (h1 ⟨e.val - 32, a1⟩).trans (sinTab_row T e _ (by omega) (by omega) (by dsimp only; omega))
  rw [dif_neg a1]
  by_cases a2 : e.val - 32 - 32 < 32
  · rw [dif_pos a2]
    exact (h4 ⟨e.val - 32 - 32, a2⟩).trans (sinTab_col_neg T e _ (by omega) (by omega) (by dsimp only; omega))
  rw [dif_neg a2]
  exact (h2 ⟨e.val - 32 - 32 - 32, by omega⟩).trans (sinTab_col T e _ (by omega) (by omega) (by dsimp only; omega))

theorem sin_transposed (T : Fin 8192) (e : Fin 128) :
    StableHlo.after (hostOps0 (F := Ideal)) σ (Proc.devRef .tc main_v41) (ix2 e T) = StableHlo.after (hostOps0 (F := Ideal)) σ (Proc.devRef .tc main_v39) (ix2 T e) := by
  rw [stretches]
  generalize StableHlo.after opsB (StableHlo.after opsA σ) = σ'
  simp only [opsC, hostOps0, List.drop_succ_cons, List.drop_zero]
  after_results
  pointwise

theorem table_sin_t (T : Fin 8192) (e : Fin 128) : StableHlo.after (hostOps0 (F := Ideal)) σ (Proc.devRef .tc main_v41) (ix2 e T) = sinTab T e :=
  (sin_transposed σ T e).trans (table_sin σ T e)

theorem gain_column (d : Fin 128) : StableHlo.after (hostOps0 (F := Ideal)) σ (Proc.devRef .tc main_v42) (ix2 d 0) = σ (Proc.devRef .tc main_arg1) (ix2 0 d) := by
  after_results
  pointwise

end Cert.Attn

end
-- ==== Proof.AttnLoop.lean ====
module

public import proofs.«01_k».proof.Proof.Pure
public import proofs.«01_k».proof.Proof.Gen.KernelIdeal.Loops
public import Idealize.ShloMosaic.Lib.VecWindow

@[expose] public section

set_option maxRecDepth 16384

noncomputable section

/-! The chunks of keys that one block of queries goes through: what one trip leaves in the accumulator and in the weights, and what all trips leave. -/

namespace Cert.Attn

open Cert.KernelIdeal Cert.KernelIdeal.Gen Idealize.ShloMosaic Idealize.ShloMosaic.TcCoe Idealize.SL.Sem

/-- The unnormalised weight of key `j` of chunk `c` for query `t` of head `h`. -/
def weight (q : S4x128x1024.Idx → EReal) (k : S8192x128.Idx → EReal) (c : Fin 16) (h : Fin 4) (j : Fin 512) (t : Fin 1024) : EReal :=
  Ideal.exp2 (∑ d : Fin 128, k (ix2 ⟨c.val * 512 + j.val, by omega⟩ d) * q (ix3 h d t))

/-- What chunk `c` adds to row `r` of the accumulator of head `h`. -/
def gain (q : S4x128x1024.Idx → EReal) (k : S8192x128.Idx → EReal) (v : S1x16x144x512.Idx → EReal) (c : Fin 16) (h : Fin 4) (r : Fin 144) (t : Fin 1024) : EReal :=
  ∑ j : Fin 512, v (ix4 0 c r j) * weight q k c h j t

theorem off1_eq : ∀ k : Fin k1_t1_loop.trips, k1_off1 k = ![(k.val + 1) * 512, 0] := by decide +kernel

theorem off2_eq : ∀ k : Fin k1_t1_loop.trips, k1_off2 k = ![0, k.val, 0, 0] := by decide +kernel

theorem trips_eq : k1_t1_loop.trips = 15 := by decide +kernel

theorem trip_lt (k : Fin k1_t1_loop.trips) : k.val < 15 := lt_of_lt_of_eq k.isLt trips_eq

section Windows

variable {sig : RefSig} {sp : Space} {e : EltTy} {Val : EltTy → Type} {A B : ℕ}

/-- A load of one head reads that head. -/
theorem readAt_head (v : View sig .tc sp ⟨3, ![4, A, B]⟩ e) (f : v.ty.Contents Val) (h : Fin 4)
    (inb : ∀ a, (![h.val, 0, 0] : Fin 3 → ℕ) a + (![1, A, B] : Fin 3 → ℕ) a ≤ (⟨3, ![4, A, B]⟩ : Shape).size a) (r : Fin A) (t : Fin B) :
    v.readAt Val (Rect.unit (s := ⟨3, ![4, A, B]⟩) ![h.val, 0, 0] ![1, A, B] inb).toLoadRect f (ix3 0 r t) = v.read Val f (ix3 h r t) := by
  rw [View.readAt_unit v f inb rfl inb]
  refine congrArg (v.read Val f) (funext fun a => Fin.ext ?_)
  match a with
  | ⟨0, _⟩ => show h.val + 1 * 0 = h.val; omega
  | ⟨1, _⟩ => show 0 + 1 * r.val = r.val; omega
  | ⟨2, _⟩ => show 0 + 1 * t.val = t.val; omega

/-- Four pieces, one per head, the last head's first: each head reads its own piece. -/
theorem read_heads (v : View sig .tc sp ⟨3, ![4, A, B]⟩ e) (f : v.ty.Contents Val)
    (inb : ∀ h : Fin 4, ∀ a, (![h.val, 0, 0] : Fin 3 → ℕ) a + (![1, A, B] : Fin 3 → ℕ) a ≤ (⟨3, ![4, A, B]⟩ : Shape).size a)
    (w : (h : Fin 4) → (Rect.unit (s := ⟨3, ![4, A, B]⟩) ![h.val, 0, 0] ![1, A, B] (inb h)).shape.Idx → Val e)
    (L : List (View.Piece Val ⟨3, ![4, A, B]⟩ e)) (h : Fin 4) (r : Fin A) (t : Fin B) :
    v.read Val (v.writes Val f
      ((⟨Rect.unit (s := ⟨3, ![4, A, B]⟩) ![3, 0, 0] ![1, A, B] (inb 3), w 3⟩ : View.Piece Val _ e)
        :: (⟨Rect.unit (s := ⟨3, ![4, A, B]⟩) ![2, 0, 0] ![1, A, B] (inb 2), w 2⟩ : View.Piece Val _ e)
        :: (⟨Rect.unit (s := ⟨3, ![4, A, B]⟩) ![1, 0, 0] ![1, A, B] (inb 1), w 1⟩ : View.Piece Val _ e)
        :: (⟨Rect.unit (s := ⟨3, ![4, A, B]⟩) ![0, 0, 0] ![1, A, B] (inb 0), w 0⟩ : View.Piece Val _ e) :: L)) (ix3 h r t)
      = w h (ix3 0 r t) := by
  have here : ∀ (h : Fin 4) (M : List (View.Piece Val ⟨3, ![4, A, B]⟩ e)),
      v.read Val (v.writes Val f ((⟨Rect.unit (s := ⟨3, ![4, A, B]⟩) ![h.val, 0, 0] ![1, A, B] (inb h), w h⟩ : View.Piece Val _ e) :: M)) (ix3 h r t)
        = w h (ix3 0 r t) := fun h M =>
    View.read_writes_cons_unit_of_mem v f (inb h) (w h) M (ix3 h r t) (ix3 0 r t) rfl fun a => by
      match a with
      | ⟨0, _⟩ => show h.val = h.val + 0; omega
      | ⟨1, _⟩ => show r.val = 0 + r.val; omega
      | ⟨2, _⟩ => show t.val = 0 + t.val; omega
  have skip : ∀ (g h : Fin 4) (M : List (View.Piece Val ⟨3, ![4, A, B]⟩ e)), h.val < g.val →
      v.read Val (v.writes Val f ((⟨Rect.unit (s := ⟨3, ![4, A, B]⟩) ![g.val, 0, 0] ![1, A, B] (inb g), w g⟩ : View.Piece Val _ e) :: M)) (ix3 h r t)
        = v.read Val (v.writes Val f M) (ix3 h r t) := fun g h M hg =>
    View.read_writes_cons_unit_of_not_mem v f (inb g) (w g) M (ix3 h r t) rfl 0 (Or.inl hg)
  match h with
  | ⟨3, _⟩ => exact here 3 _
  | ⟨2, _⟩ => exact (skip 3 2 _ (by decide)).trans (here 2 _)
  | ⟨1, _⟩ => exact (skip 3 1 _ (by decide)).trans ((skip 2 1 _ (by decide)).trans (here 1 _))
  | ⟨0, _⟩ => exact (skip 3 0 _ (by decide)).trans ((skip 2 0 _ (by decide)).trans ((skip 1 0 _ (by decide)).trans (here 0 _)))

end Windows

section Trips

variable (𝒱 : Variants) (c : Dev nD) (bd : Option 𝒱.V) (i : grid1.Coords)
  (arg3 : Memref sig .tc .vmem S4x128x1024 .bf16) (harg3 : arg3.IsWhole) (arg4 : Memref sig .tc .vmem S8192x128 .bf16) (harg4 : arg4.IsWhole)
  (arg5 : Memref sig .tc .vmem S1x16x144x512 .bf16) (harg5 : arg5.IsWhole) (arg6 : Memref sig .tc .vmem S1024x512 .bf16) (harg6 : arg6.IsWhole)
  (arg7 : Memref sig .tc .vmem S4x144x1024 .f32) (harg7 : arg7.IsWhole) (arg8 : Memref sig .tc .vmem S4x512x1024 .bf16) (harg8 : arg8.IsWhole)
  (v7 : FVec Ideal S512x128 .bf16) (v28 : FVec Ideal S512x1024 .bf16)
  (X3 : BufTy.Contents (Elt Ideal) arg3.view.ty) (X4 : BufTy.Contents (Elt Ideal) arg4.view.ty) (X5 : BufTy.Contents (Elt Ideal) arg5.view.ty)

/-- One head of the accumulator after a chunk whose weights are at hand. -/
theorem acc_piece (off : Fin 4 → ℕ) (n : Fin 16) (hoff : off = ![0, n.val, 0, 0])
    (inb : ∀ a, off a + S1x1x144x512.size a ≤ S1x16x144x512.size a) (h : Fin 4)
    (inb7 : ∀ a, (![h.val, 0, 0] : Fin 3 → ℕ) a + S1x144x1024.size a ≤ S4x144x1024.size a)
    (inb8 : ∀ a, (![h.val, 0, 0] : Fin 3 → ℕ) a + S1x512x1024.size a ≤ S4x512x1024.size a)
    (f7 : BufTy.Contents (Elt Ideal) arg7.view.ty) (f8 : BufTy.Contents (Elt Ideal) arg8.view.ty) (r : Fin 144) (t : Fin 1024) :
    k1_pay7 (arg5.view.readAt (Elt Ideal) (Rect.unit (s := S1x16x144x512) off S1x1x144x512.size inb).toLoadRect X5)
        (arg7.view.readAt (Elt Ideal) (Rect.unit (s := S4x144x1024) ![h.val, 0, 0] S1x144x1024.size inb7).toLoadRect f7)
        (arg8.view.readAt (Elt Ideal) (Rect.unit (s := S4x512x1024) ![h.val, 0, 0] S1x512x1024.size inb8).toLoadRect f8) (ix3 0 r t)
      = arg7.view.read (Elt Ideal) f7 (ix3 h r t)
        + ∑ j : Fin 512, arg5.view.read (Elt Ideal) X5 (ix4 0 n r j) * arg8.view.read (Elt Ideal) f8 (ix3 h j t) := by
  subst hoff
  rw [accumulate_apply]
  refine congrArg₂ (· + ·) (readAt_head arg7.view f7 h inb7 r t) (Finset.sum_congr rfl fun j _ => congrArg₂ (· * ·) ?_ (readAt_head arg8.view f8 h inb8 j t))
  rw [View.readAt_unit arg5.view X5 inb rfl inb]
  refine congrArg (arg5.view.read (Elt Ideal) X5) (funext fun a => Fin.ext ?_)
  match a with
  | ⟨0, _⟩ => rfl
  | ⟨1, _⟩ => show n.val + 1 * 0 = n.val; omega
  | ⟨2, _⟩ => show 0 + 1 * r.val = r.val; omega
  | ⟨3, _⟩ => show 0 + 1 * j.val = j.val; omega

/-- One head of the weights of a chunk. -/
theorem weight_piece (off : Fin 2 → ℕ) (n : Fin 16) (hoff : off = ![n.val * 512, 0])
    (inb : ∀ a, off a + S512x128.size a ≤ S8192x128.size a) (h : Fin 4)
    (inb3 : ∀ a, (![h.val, 0, 0] : Fin 3 → ℕ) a + S1x128x1024.size a ≤ S4x128x1024.size a) (j : Fin 512) (t : Fin 1024) :
    k1_pay8 (arg4.view.readAt (Elt Ideal) (Rect.unit (s := S8192x128) off S512x128.size inb).toLoadRect X4)
        (arg3.view.readAt (Elt Ideal) (Rect.unit (s := S4x128x1024) ![h.val, 0, 0] S1x128x1024.size inb3).toLoadRect X3) (ix3 0 j t)
      = weight (arg3.view.read (Elt Ideal) X3) (arg4.view.read (Elt Ideal) X4) n h j t := by
  subst hoff
  rw [weights_apply]
  refine congrArg Ideal.exp2 (Finset.sum_congr rfl fun d _ => congrArg₂ (· * ·) ?_ (readAt_head arg3.view X3 h inb3 d t))
  rw [View.readAt_unit arg4.view X4 inb rfl inb]
  refine congrArg (arg4.view.read (Elt Ideal) X4) (funext fun a => Fin.ext ?_)
  match a with
  | ⟨0, _⟩ => show n.val * 512 + 1 * j.val = n.val * 512 + j.val; omega
  | ⟨1, _⟩ => show 0 + 1 * d.val = d.val; omega

theorem head_inb (A B : ℕ) : ∀ h : Fin 4, ∀ a, (![h.val, 0, 0] : Fin 3 → ℕ) a + (![1, A, B] : Fin 3 → ℕ) a ≤ (⟨3, ![4, A, B]⟩ : Shape).size a := fun h a => by
  match a with
  | ⟨0, _⟩ => show h.val + 1 ≤ 4; omega
  | ⟨1, _⟩ => show 0 + A ≤ A; omega
  | ⟨2, _⟩ => show 0 + B ≤ B; omega

set_option maxHeartbeats 4000000 in
theorem tripL_eq (k : Fin k1_t1_loop.trips) (f7 : BufTy.Contents (Elt Ideal) arg7.view.ty) (f8 : BufTy.Contents (Elt Ideal) arg8.view.ty) :
    (∀ (h : Fin 4) (r : Fin 144) (t : Fin 1024),
      arg7.view.read (Elt Ideal) (arg7.view.writes (Elt Ideal) f7
          (tripL_k1_t1 (F := Ideal) 𝒱 c bd i arg3 harg3 arg4 harg4 arg5 harg5 arg6 harg6 arg7 harg7 arg8 harg8 v7 v28 X3 X4 X5 k f7 f8).1) (ix3 h r t)
        = arg7.view.read (Elt Ideal) f7 (ix3 h r t)
          + ∑ j : Fin 512, arg5.view.read (Elt Ideal) X5 (ix4 0 ⟨k.val, by have := trip_lt k; omega⟩ r j)
              * arg8.view.read (Elt Ideal) f8 (ix3 h j t))
    ∧ (∀ (h : Fin 4) (j : Fin 512) (t : Fin 1024),
      arg8.view.read (Elt Ideal) (arg8.view.writes (Elt Ideal) f8
          (tripL_k1_t1 (F := Ideal) 𝒱 c bd i arg3 harg3 arg4 harg4 arg5 harg5 arg6 harg6 arg7 harg7 arg8 harg8 v7 v28 X3 X4 X5 k f7 f8).2) (ix3 h j t)
        = weight (arg3.view.read (Elt Ideal) X3) (arg4.view.read (Elt Ideal) X4)
            ⟨k.val + 1, by have := trip_lt k; omega⟩ h j t) := by
  have hk := trip_lt k
  unfold tripL_k1_t1 trip_k1_t1
  dsimp only
  sl_unfold_words
  constructor
  · intro h r t
    refine (read_heads arg7.view f7 (head_inb 144 1024) (fun h => k1_pay7
      (arg5.view.readAt (Elt Ideal) (Rect.unit (s := S1x16x144x512) (k1_off2 k) S1x1x144x512.size (k1_off2_inb k)).toLoadRect X5)
      (arg7.view.readAt (Elt Ideal) (Rect.unit (s := S4x144x1024) ![h.val, 0, 0] S1x144x1024.size (head_inb 144 1024 h)).toLoadRect f7)
      (arg8.view.readAt (Elt Ideal) (Rect.unit (s := S4x512x1024) ![h.val, 0, 0] S1x512x1024.size (head_inb 512 1024 h)).toLoadRect f8)) [] h r t).trans ?_
    exact acc_piece arg5 arg7 arg8 X5 _ ⟨k.val, by omega⟩ (off2_eq k) (k1_off2_inb k) h _ _ f7 f8 r t
  · intro h j t
    refine (read_heads arg8.view f8 (head_inb 512 1024) (fun h => k1_pay8
      (arg4.view.readAt (Elt Ideal) (Rect.unit (s := S8192x128) (k1_off1 k) S512x128.size (k1_off1_inb k)).toLoadRect X4)
      (arg3.view.readAt (Elt Ideal) (Rect.unit (s := S4x128x1024) ![h.val, 0, 0] S1x128x1024.size (head_inb 128 1024 h)).toLoadRect X3)) [] h j t).trans ?_
    exact weight_piece arg3 arg4 X3 X4 _ ⟨k.val + 1, by omega⟩ (off1_eq k) (k1_off1_inb k) h _ j t

/-- What the first chunks add to row `r`, chunk by chunk. -/
def gains (q : S4x128x1024.Idx → EReal) (k : S8192x128.Idx → EReal) (v : S1x16x144x512.Idx → EReal) (h : Fin 4) (r : Fin 144) (t : Fin 1024) (n : ℕ) : EReal :=
  ∑ c ∈ Finset.range n, if hc : c < 16 then gain q k v ⟨c, hc⟩ h r t else 0

theorem gains_succ (q : S4x128x1024.Idx → EReal) (k : S8192x128.Idx → EReal) (v : S1x16x144x512.Idx → EReal) (h : Fin 4) (r : Fin 144) (t : Fin 1024) (n : Fin 16) :
    gains q k v h r t (n.val + 1) = gains q k v h r t n.val + gain q k v n h r t := by
  unfold gains
  rw [Finset.sum_range_succ, dif_pos n.isLt]

/-- After `n` trips the accumulator holds the first `n` chunks' sums and the weights are those of chunk `n`. -/
theorem pb_eq (G7 : BufTy.Contents (Elt Ideal) arg7.view.ty) (G8 : BufTy.Contents (Elt Ideal) arg8.view.ty)
    (h7 : ∀ (h : Fin 4) (r : Fin 144) (t : Fin 1024), arg7.view.read (Elt Ideal) G7 (ix3 h r t) = 0)
    (h8 : ∀ (h : Fin 4) (j : Fin 512) (t : Fin 1024), arg8.view.read (Elt Ideal) G8 (ix3 h j t)
      = weight (arg3.view.read (Elt Ideal) X3) (arg4.view.read (Elt Ideal) X4) 0 h j t)
    (n : ℕ) (hn : n < 16) :
    (∀ (h : Fin 4) (r : Fin 144) (t : Fin 1024),
      arg7.view.read (Elt Ideal) (arg7.view.writes (Elt Ideal) G7
          (pb_k1_t1 (F := Ideal) 𝒱 c bd i arg3 harg3 arg4 harg4 arg5 harg5 arg6 harg6 arg7 harg7 arg8 harg8 v7 v28 X3 X4 X5 G7 G8 n).1) (ix3 h r t)
        = gains (arg3.view.read (Elt Ideal) X3) (arg4.view.read (Elt Ideal) X4) (arg5.view.read (Elt Ideal) X5) h r t n)
    ∧ (∀ (h : Fin 4) (j : Fin 512) (t : Fin 1024),
      arg8.view.read (Elt Ideal) (arg8.view.writes (Elt Ideal) G8
          (pb_k1_t1 (F := Ideal) 𝒱 c bd i arg3 harg3 arg4 harg4 arg5 harg5 arg6 harg6 arg7 harg7 arg8 harg8 v7 v28 X3 X4 X5 G7 G8 n).2) (ix3 h j t)
        = weight (arg3.view.read (Elt Ideal) X3) (arg4.view.read (Elt Ideal) X4) ⟨n, hn⟩ h j t) := by
  induction n with
  | zero => exact ⟨fun h r t => h7 h r t, fun h j t => h8 h j t⟩
  | succ n ih =>
    obtain ⟨ih7, ih8⟩ := ih (by omega)
    have hk : n < k1_t1_loop.trips := lt_of_lt_of_eq (by omega : n < 15) trips_eq.symm
    rw [pb_k1_t1_succ (F := Ideal) 𝒱 c bd i arg3 harg3 arg4 harg4 arg5 harg5 arg6 harg6 arg7 harg7 arg8 harg8 v7 v28 X3 X4 X5 G7 G8 ⟨n, hk⟩]
    obtain ⟨t7, t8⟩ := tripL_eq 𝒱 c bd i arg3 harg3 arg4 harg4 arg5 harg5 arg6 harg6 arg7 harg7 arg8 harg8 v7 v28 X3 X4 X5 ⟨n, hk⟩
      (arg7.view.writes (Elt Ideal) G7 (pb_k1_t1 (F := Ideal) 𝒱 c bd i arg3 harg3 arg4 harg4 arg5 harg5 arg6 harg6 arg7 harg7 arg8 harg8 v7 v28 X3 X4 X5 G7 G8 n).1)
      (arg8.view.writes (Elt Ideal) G8 (pb_k1_t1 (F := Ideal) 𝒱 c bd i arg3 harg3 arg4 harg4 arg5 harg5 arg6 harg6 arg7 harg7 arg8 harg8 v7 v28 X3 X4 X5 G7 G8 n).2)
    constructor
    · intro h r t
      rw [View.writes_append, t7, ih7, gains_succ (n := ⟨n, by omega⟩)]
      exact congrArg _ (Finset.sum_congr rfl fun j _ => congrArg _ (ih8 h j t))
    · intro h j t
      rw [View.writes_append, t8]

end Trips

end Cert.Attn

end
-- ==== Proof.AttnBlock.lean ====
module

public import proofs.«01_k».proof.Proof.AttnLoop
public import proofs.«01_k».proof.Proof.Gen.KernelIdeal.Frame

@[expose] public section

set_option maxRecDepth 16384

noncomputable section

/-! What one block of queries leaves in its block of the result. -/

namespace Cert.Attn

open Cert.KernelIdeal Cert.KernelIdeal.Gen Idealize.ShloMosaic Idealize.ShloMosaic.TcCoe Idealize.SL.Sem

section Block

variable (arg3 : Memref sig .tc .vmem S4x128x1024 .bf16) (arg4 : Memref sig .tc .vmem S8192x128 .bf16) (arg5 : Memref sig .tc .vmem S1x16x144x512 .bf16)
  (arg7 : Memref sig .tc .vmem S4x144x1024 .f32) (arg8 : Memref sig .tc .vmem S4x512x1024 .bf16)
  (X3 : BufTy.Contents (Elt Ideal) arg3.view.ty) (X4 : BufTy.Contents (Elt Ideal) arg4.view.ty) (X5 : BufTy.Contents (Elt Ideal) arg5.view.ty)

/-- The accumulator with one head brought up to date by the last chunk. -/
def lastStep (f8 : BufTy.Contents (Elt Ideal) arg8.view.ty) (h : Fin 4) (f7 : BufTy.Contents (Elt Ideal) arg7.view.ty) : BufTy.Contents (Elt Ideal) arg7.view.ty :=
  arg7.view.writes (Elt Ideal) f7
    [⟨Rect.unit (s := S4x144x1024) ![h.val, 0, 0] S1x144x1024.size (head_inb 144 1024 h), k1_pay7
      (arg5.view.readAt (Elt Ideal) (Rect.unit (s := S1x16x144x512) ![0, 15, 0, 0] S1x1x144x512.size inb_S1x16x144x512_S1x1x144x512_0_15_0_0).toLoadRect X5)
      (arg7.view.readAt (Elt Ideal) (Rect.unit (s := S4x144x1024) ![h.val, 0, 0] S1x144x1024.size (head_inb 144 1024 h)).toLoadRect f7)
      (arg8.view.readAt (Elt Ideal) (Rect.unit (s := S4x512x1024) ![h.val, 0, 0] S1x512x1024.size (head_inb 512 1024 h)).toLoadRect f8)⟩]

theorem lastStep_same (f8 : BufTy.Contents (Elt Ideal) arg8.view.ty) (h : Fin 4) (f7 : BufTy.Contents (Elt Ideal) arg7.view.ty) (r : Fin 144) (t : Fin 1024) :
    arg7.view.read (Elt Ideal) (lastStep arg5 arg7 arg8 X5 f8 h f7) (ix3 h r t)
      = arg7.view.read (Elt Ideal) f7 (ix3 h r t)
        + ∑ j : Fin 512, arg5.view.read (Elt Ideal) X5 (ix4 0 15 r j) * arg8.view.read (Elt Ideal) f8 (ix3 h j t) := by
  refine (View.read_writes_cons_unit_of_mem arg7.view f7 _ _ [] (ix3 h r t) (ix3 0 r t) rfl fun a => ?_).trans
    (acc_piece arg5 arg7 arg8 X5 _ 15 rfl _ h _ _ f7 f8 r t)
  match a with
  | ⟨0, _⟩ => show h.val = h.val + 0; omega
  | ⟨1, _⟩ => show r.val = 0 + r.val; omega
  | ⟨2, _⟩ => show t.val = 0 + t.val; omega

theorem lastStep_other (f8 : BufTy.Contents (Elt Ideal) arg8.view.ty) (g h : Fin 4) (hg : h.val < g.val ∨ g.val < h.val)
    (f7 : BufTy.Contents (Elt Ideal) arg7.view.ty) (r : Fin 144) (t : Fin 1024) :
    arg7.view.read (Elt Ideal) (lastStep arg5 arg7 arg8 X5 f8 g f7) (ix3 h r t) = arg7.view.read (Elt Ideal) f7 (ix3 h r t) :=
  View.read_writes_cons_unit_of_not_mem arg7.view f7 _ _ [] (ix3 h r t) rfl 0 (by
    show h.val < g.val ∨ g.val + 1 ≤ h.val
    omega)

/-- The accumulator after the last chunk. -/
def lastAcc (f7 : BufTy.Contents (Elt Ideal) arg7.view.ty) (f8 : BufTy.Contents (Elt Ideal) arg8.view.ty) : BufTy.Contents (Elt Ideal) arg7.view.ty :=
  lastStep arg5 arg7 arg8 X5 f8 3 (lastStep arg5 arg7 arg8 X5 f8 2 (lastStep arg5 arg7 arg8 X5 f8 1 (lastStep arg5 arg7 arg8 X5 f8 0 f7)))

theorem lastAcc_eq (f7 : BufTy.Contents (Elt Ideal) arg7.view.ty) (f8 : BufTy.Contents (Elt Ideal) arg8.view.ty) (h : Fin 4) (r : Fin 144) (t : Fin 1024) :
    arg7.view.read (Elt Ideal) (lastAcc arg5 arg7 arg8 X5 f7 f8) (ix3 h r t)
      = arg7.view.read (Elt Ideal) f7 (ix3 h r t)
        + ∑ j : Fin 512, arg5.view.read (Elt Ideal) X5 (ix4 0 15 r j) * arg8.view.read (Elt Ideal) f8 (ix3 h j t) := by
  unfold lastAcc
  match h with
  | ⟨0, _⟩ =>
    rw [lastStep_other _ _ _ _ _ 3 _ (Or.inl (by show 0 < 3; omega)), lastStep_other _ _ _ _ _ 2 _ (Or.inl (by show 0 < 2; omega)),
      lastStep_other _ _ _ _ _ 1 _ (Or.inl (by show 0 < 1; omega))]
    exact lastStep_same arg5 arg7 arg8 X5 f8 0 f7 r t
  | ⟨1, _⟩ =>
    rw [lastStep_other _ _ _ _ _ 3 _ (Or.inl (by show 1 < 3; omega)), lastStep_other _ _ _ _ _ 2 _ (Or.inl (by show 1 < 2; omega))]
    refine (lastStep_same arg5 arg7 arg8 X5 f8 1 _ r t).trans ?_
    rw [lastStep_other _ _ _ _ _ 0 _ (Or.inr (by show 0 < 1; omega))]
    rfl
  | ⟨2, _⟩ =>
    rw [lastStep_other _ _ _ _ _ 3 _ (Or.inl (by show 2 < 3; omega))]
    refine (lastStep_same arg5 arg7 arg8 X5 f8 2 _ r t).trans ?_
    rw [lastStep_other _ _ _ _ _ 1 _ (Or.inr (by show 1 < 2; omega)), lastStep_other _ _ _ _ _ 0 _ (Or.inr (by show 0 < 2; omega))]
    rfl
  | ⟨3, _⟩ =>
    refine (lastStep_same arg5 arg7 arg8 X5 f8 3 _ r t).trans ?_
    rw [lastStep_other _ _ _ _ _ 2 _ (Or.inr (by show 2 < 3; omega)), lastStep_other _ _ _ _ _ 1 _ (Or.inr (by show 1 < 3; omega)),
      lastStep_other _ _ _ _ _ 0 _ (Or.inr (by show 0 < 3; omega))]
    rfl

theorem cols_inb : ∀ h : Fin 4, ∀ a, (![0, h.val * 128] : Fin 2 → ℕ) a + S1024x128.size a ≤ S1024x512.size a := fun h a => by
  match a with
  | ⟨0, _⟩ => show 0 + 1024 ≤ 1024; omega
  | ⟨1, _⟩ => show h.val * 128 + 128 ≤ 512; omega

/-- Four pieces of 128 columns each, the last first: each column reads its own piece. -/
theorem read_cols (v : View sig .tc .vmem S1024x512 .bf16) (f : v.ty.Contents (Elt Ideal))
    (w : (h : Fin 4) → (Rect.unit (s := S1024x512) ![0, h.val * 128] S1024x128.size (cols_inb h)).shape.Idx → Elt Ideal .bf16)
    (t : Fin 1024) (h : Fin 4) (d : Fin 128) :
    v.read (Elt Ideal) (v.writes (Elt Ideal) f
      [⟨Rect.unit (s := S1024x512) ![0, (3 : Fin 4).val * 128] S1024x128.size (cols_inb 3), w 3⟩,
        ⟨Rect.unit (s := S1024x512) ![0, (2 : Fin 4).val * 128] S1024x128.size (cols_inb 2), w 2⟩,
        ⟨Rect.unit (s := S1024x512) ![0, (1 : Fin 4).val * 128] S1024x128.size (cols_inb 1), w 1⟩,
        ⟨Rect.unit (s := S1024x512) ![0, (0 : Fin 4).val * 128] S1024x128.size (cols_inb 0), w 0⟩]) (ix2 t ⟨h.val * 128 + d.val, by omega⟩)
      = w h (ix2 t d) := by
  have here : ∀ (h : Fin 4) (M : List (View.Piece (Elt Ideal) S1024x512 .bf16)),
      v.read (Elt Ideal) (v.writes (Elt Ideal) f ((⟨Rect.unit (s := S1024x512) ![0, h.val * 128] S1024x128.size (cols_inb h), w h⟩ : View.Piece (Elt Ideal) _ .bf16) :: M))
        (ix2 t ⟨h.val * 128 + d.val, by omega⟩) = w h (ix2 t d) := fun h M =>
    View.read_writes_cons_unit_of_mem v f (cols_inb h) (w h) M _ (ix2 t d) rfl fun a => by
      match a with
      | ⟨0, _⟩ => show t.val = 0 + t.val; omega
      | ⟨1, _⟩ => show h.val * 128 + d.val = h.val * 128 + d.val; omega
  have skip : ∀ (g h : Fin 4) (M : List (View.Piece (Elt Ideal) S1024x512 .bf16)), h.val < g.val →
      v.read (Elt Ideal) (v.writes (Elt Ideal) f ((⟨Rect.unit (s := S1024x512) ![0, g.val * 128] S1024x128.size (cols_inb g), w g⟩ : View.Piece (Elt Ideal) _ .bf16) :: M))
        (ix2 t ⟨h.val * 128 + d.val, by omega⟩) = v.read (Elt Ideal) (v.writes (Elt Ideal) f M) (ix2 t ⟨h.val * 128 + d.val, by omega⟩) := fun g h M hg =>
    View.read_writes_cons_unit_of_not_mem v f (cols_inb g) (w g) M _ rfl 1 (Or.inl (by show h.val * 128 + d.val < g.val * 128; omega))
  match h with
  | ⟨3, _⟩ => exact here 3 _
  | ⟨2, _⟩ => exact (skip 3 2 _ (by decide)).trans (here 2 _)
  | ⟨1, _⟩ => exact (skip 3 1 _ (by decide)).trans ((skip 2 1 _ (by decide)).trans (here 1 _))
  | ⟨0, _⟩ => exact (skip 3 0 _ (by decide)).trans ((skip 2 0 _ (by decide)).trans ((skip 1 0 _ (by decide)).trans (here 0 _)))

/-- The stores that bring the four heads up to date, on top of the earlier stores `L7`; the weights are what the stores `L8` left. -/
def last0 (V : Vec Ideal S1x1x144x512 .bf16) (L7 : List (View.Piece (Elt Ideal) S4x144x1024 .f32)) (L8 : List (View.Piece (Elt Ideal) S4x512x1024 .bf16)) :
    List (View.Piece (Elt Ideal) S4x144x1024 .f32) :=
  ⟨Rect.unit (s := S4x144x1024) ![0, 0, 0] S1x144x1024.size inb_S4x144x1024_S1x144x1024_0_0_0,
    k1_pay25 V (arg7.view.readCov L7 (Rect.unit (s := S4x144x1024) ![0, 0, 0] S1x144x1024.size inb_S4x144x1024_S1x144x1024_0_0_0).toLoadRect)
      (arg8.view.readCov L8 (Rect.unit (s := S4x512x1024) ![0, 0, 0] S1x512x1024.size inb_S4x512x1024_S1x512x1024_0_0_0).toLoadRect)⟩ :: L7

def last1 (V : Vec Ideal S1x1x144x512 .bf16) (M : List (View.Piece (Elt Ideal) S4x144x1024 .f32)) (L8 : List (View.Piece (Elt Ideal) S4x512x1024 .bf16)) :
    List (View.Piece (Elt Ideal) S4x144x1024 .f32) :=
  ⟨Rect.unit (s := S4x144x1024) ![1, 0, 0] S1x144x1024.size inb_S4x144x1024_S1x144x1024_1_0_0,
    k1_pay27 (k1_pay24 V) (k1_pay26 (arg7.view.readCov M (Rect.unit (s := S4x144x1024) ![1, 0, 0] S1x144x1024.size inb_S4x144x1024_S1x144x1024_1_0_0).toLoadRect))
      (arg8.view.readCov L8 (Rect.unit (s := S4x512x1024) ![1, 0, 0] S1x512x1024.size inb_S4x512x1024_S1x512x1024_1_0_0).toLoadRect)⟩ :: M

def last2 (V : Vec Ideal S1x1x144x512 .bf16) (M : List (View.Piece (Elt Ideal) S4x144x1024 .f32)) (L8 : List (View.Piece (Elt Ideal) S4x512x1024 .bf16)) :
    List (View.Piece (Elt Ideal) S4x144x1024 .f32) :=
  ⟨Rect.unit (s := S4x144x1024) ![2, 0, 0] S1x144x1024.size inb_S4x144x1024_S1x144x1024_2_0_0,
    k1_pay28 (k1_pay24 V) (arg7.view.readCov M (Rect.unit (s := S4x144x1024) ![2, 0, 0] S1x144x1024.size inb_S4x144x1024_S1x144x1024_2_0_0).toLoadRect)
      (arg8.view.readCov L8 (Rect.unit (s := S4x512x1024) ![2, 0, 0] S1x512x1024.size inb_S4x512x1024_S1x512x1024_2_0_0).toLoadRect)⟩ :: M

def last3 (V : Vec Ideal S1x1x144x512 .bf16) (M : List (View.Piece (Elt Ideal) S4x144x1024 .f32)) (L8 : List (View.Piece (Elt Ideal) S4x512x1024 .bf16)) :
    List (View.Piece (Elt Ideal) S4x144x1024 .f32) :=
  ⟨Rect.unit (s := S4x144x1024) ![3, 0, 0] S1x144x1024.size inb_S4x144x1024_S1x144x1024_3_0_0,
    k1_pay29 (k1_pay24 V) (arg7.view.readCov M (Rect.unit (s := S4x144x1024) ![3, 0, 0] S1x144x1024.size inb_S4x144x1024_S1x144x1024_3_0_0).toLoadRect)
      (arg8.view.readCov L8 (Rect.unit (s := S4x512x1024) ![3, 0, 0] S1x512x1024.size inb_S4x512x1024_S1x512x1024_3_0_0).toLoadRect)⟩ :: M

/-- All four heads' stores. -/
def lasts (V : Vec Ideal S1x1x144x512 .bf16) (L7 : List (View.Piece (Elt Ideal) S4x144x1024 .f32)) (L8 : List (View.Piece (Elt Ideal) S4x512x1024 .bf16)) :
    List (View.Piece (Elt Ideal) S4x144x1024 .f32) :=
  last3 arg7 arg8 V (last2 arg7 arg8 V (last1 arg7 arg8 V (last0 arg7 arg8 V L7 L8) L8) L8) L8

variable (M : List (View.Piece (Elt Ideal) S4x144x1024 .f32)) (L8 : List (View.Piece (Elt Ideal) S4x512x1024 .bf16))

theorem last0_eq : arg7.view.writes (Elt Ideal) arg7.view.junk (last0 arg7 arg8 (arg5.view.readAt (Elt Ideal)
      (Rect.unit (s := S1x16x144x512) ![0, 15, 0, 0] S1x1x144x512.size inb_S1x16x144x512_S1x1x144x512_0_15_0_0).toLoadRect X5) M L8)
    = lastStep arg5 arg7 arg8 X5 (arg8.view.writes (Elt Ideal) arg8.view.junk L8) 0 (arg7.view.writes (Elt Ideal) arg7.view.junk M) := rfl

theorem last1_eq : arg7.view.writes (Elt Ideal) arg7.view.junk (last1 arg7 arg8 (arg5.view.readAt (Elt Ideal)
      (Rect.unit (s := S1x16x144x512) ![0, 15, 0, 0] S1x1x144x512.size inb_S1x16x144x512_S1x1x144x512_0_15_0_0).toLoadRect X5) M L8)
    = lastStep arg5 arg7 arg8 X5 (arg8.view.writes (Elt Ideal) arg8.view.junk L8) 1 (arg7.view.writes (Elt Ideal) arg7.view.junk M) := rfl

theorem last2_eq : arg7.view.writes (Elt Ideal) arg7.view.junk (last2 arg7 arg8 (arg5.view.readAt (Elt Ideal)
      (Rect.unit (s := S1x16x144x512) ![0, 15, 0, 0] S1x1x144x512.size inb_S1x16x144x512_S1x1x144x512_0_15_0_0).toLoadRect X5) M L8)
    = lastStep arg5 arg7 arg8 X5 (arg8.view.writes (Elt Ideal) arg8.view.junk L8) 2 (arg7.view.writes (Elt Ideal) arg7.view.junk M) := rfl

theorem last3_eq : arg7.view.writes (Elt Ideal) arg7.view.junk (last3 arg7 arg8 (arg5.view.readAt (Elt Ideal)
      (Rect.unit (s := S1x16x144x512) ![0, 15, 0, 0] S1x1x144x512.size inb_S1x16x144x512_S1x1x144x512_0_15_0_0).toLoadRect X5) M L8)
    = lastStep arg5 arg7 arg8 X5 (arg8.view.writes (Elt Ideal) arg8.view.junk L8) 3 (arg7.view.writes (Elt Ideal) arg7.view.junk M) := rfl

theorem lasts_eq : arg7.view.writes (Elt Ideal) arg7.view.junk (lasts arg7 arg8 (arg5.view.readAt (Elt Ideal)
      (Rect.unit (s := S1x16x144x512) ![0, 15, 0, 0] S1x1x144x512.size inb_S1x16x144x512_S1x1x144x512_0_15_0_0).toLoadRect X5) M L8)
    = lastAcc arg5 arg7 arg8 X5 (arg7.view.writes (Elt Ideal) arg7.view.junk M) (arg8.view.writes (Elt Ideal) arg8.view.junk L8) := by
  unfold lasts lastAcc
  rw [last3_eq, last2_eq, last1_eq, last0_eq]

/-- The four results, as the run computes them from the accumulator's stores `L`. -/
def results (L : List (View.Piece (Elt Ideal) S4x144x1024 .f32)) : (h : Fin 4) → (Rect.unit (s := S1024x512) ![0, h.val * 128] S1024x128.size (cols_inb h)).shape.Idx → Elt Ideal .bf16
  | ⟨0, _⟩ => k1_pay1
      (k1_pay30 (arg7.view.readCov L (Rect.unit (s := S4x144x1024) ![0, 0, 0] S1x144x1024.size inb_S4x144x1024_S1x144x1024_0_0_0).toLoadRect))
      (k1_pay31 (arg7.view.readCov L (Rect.unit (s := S4x144x1024) ![0, 0, 0] S1x144x1024.size inb_S4x144x1024_S1x144x1024_0_0_0).toLoadRect))
  | ⟨1, _⟩ => k1_pay2 (arg7.view.readCov L (Rect.unit (s := S4x144x1024) ![1, 0, 0] S1x144x1024.size inb_S4x144x1024_S1x144x1024_1_0_0).toLoadRect)
  | ⟨2, _⟩ => k1_pay3 (arg7.view.readCov L (Rect.unit (s := S4x144x1024) ![2, 0, 0] S1x144x1024.size inb_S4x144x1024_S1x144x1024_2_0_0).toLoadRect)
  | ⟨3, _⟩ => k1_pay4 (arg7.view.readCov L (Rect.unit (s := S4x144x1024) ![3, 0, 0] S1x144x1024.size inb_S4x144x1024_S1x144x1024_3_0_0).toLoadRect)

theorem results_eq (L : List (View.Piece (Elt Ideal) S4x144x1024 .f32)) : ∀ h : Fin 4,
    results arg7 L h = k1_pay2 (arg7.view.readAt (Elt Ideal) (Rect.unit (s := S4x144x1024) ![h.val, 0, 0] S1x144x1024.size (head_inb 144 1024 h)).toLoadRect
      (arg7.view.writes (Elt Ideal) arg7.view.junk L))
  | ⟨0, _⟩ => rfl
  | ⟨1, _⟩ => rfl
  | ⟨2, _⟩ => rfl
  | ⟨3, _⟩ => rfl

theorem zeros_apply (i : S4x144x1024.Idx) : (k1_pay14 : FVec Ideal S4x144x1024 .f32) i = 0 := by
  idx_vars i
  pointwise [k1_pay14]

/-- The accumulator starts at zero, -/
theorem start7 (h : Fin 4) (r : Fin 144) (t : Fin 1024) :
    arg7.view.read (Elt Ideal) (arg7.view.writes (Elt Ideal) arg7.view.junk
      [⟨Rect.unit (s := S4x144x1024) ![0, 0, 0] S4x144x1024.size inb_S4x144x1024_S4x144x1024_0_0_0, k1_pay14 (F := Ideal)⟩]) (ix3 h r t) = 0 :=
  (View.read_writes_cons_unit_of_mem arg7.view _ _ _ [] (ix3 h r t) (ix3 h r t) rfl fun a => by
    match a with
    | ⟨0, _⟩ => show h.val = 0 + h.val; omega
    | ⟨1, _⟩ => show r.val = 0 + r.val; omega
    | ⟨2, _⟩ => show t.val = 0 + t.val; omega).trans (zeros_apply _)

/-- The first chunk's weights, head by head, as the run computes them. -/
def firsts : (h : Fin 4) → (Rect.unit (s := S4x512x1024) ![h.val, 0, 0] S1x512x1024.size (head_inb 512 1024 h)).shape.Idx → Elt Ideal .bf16
  | ⟨0, _⟩ => k1_pay16 (arg4.view.readAt (Elt Ideal) (Rect.unit (s := S8192x128) ![0, 0] S512x128.size inb_S8192x128_S512x128_0_0).toLoadRect X4)
      (arg3.view.readAt (Elt Ideal) (Rect.unit (s := S4x128x1024) ![0, 0, 0] S1x128x1024.size inb_S4x128x1024_S1x128x1024_0_0_0).toLoadRect X3)
  | ⟨1, _⟩ => k1_pay17 (arg4.view.readAt (Elt Ideal) (Rect.unit (s := S8192x128) ![0, 0] S512x128.size inb_S8192x128_S512x128_0_0).toLoadRect X4)
      (arg3.view.readAt (Elt Ideal) (Rect.unit (s := S4x128x1024) ![1, 0, 0] S1x128x1024.size inb_S4x128x1024_S1x128x1024_1_0_0).toLoadRect X3)
  | ⟨2, _⟩ => k1_pay19 (k1_pay18 (arg4.view.readAt (Elt Ideal) (Rect.unit (s := S8192x128) ![0, 0] S512x128.size inb_S8192x128_S512x128_0_0).toLoadRect X4)
      (arg3.view.readAt (Elt Ideal) (Rect.unit (s := S4x128x1024) ![2, 0, 0] S1x128x1024.size inb_S4x128x1024_S1x128x1024_2_0_0).toLoadRect X3))
  | ⟨3, _⟩ => k1_pay20 (k1_pay15 (arg4.view.readAt (Elt Ideal) (Rect.unit (s := S8192x128) ![0, 0] S512x128.size inb_S8192x128_S512x128_0_0).toLoadRect X4))
      (arg3.view.readAt (Elt Ideal) (Rect.unit (s := S4x128x1024) ![3, 0, 0] S1x128x1024.size inb_S4x128x1024_S1x128x1024_3_0_0).toLoadRect X3)

theorem firsts_eq : ∀ h : Fin 4,
    firsts arg3 arg4 X3 X4 h = k1_pay8 (arg4.view.readAt (Elt Ideal) (Rect.unit (s := S8192x128) ![0, 0] S512x128.size inb_S8192x128_S512x128_0_0).toLoadRect X4)
      (arg3.view.readAt (Elt Ideal) (Rect.unit (s := S4x128x1024) ![h.val, 0, 0] S1x128x1024.size (head_inb 128 1024 h)).toLoadRect X3)
  | ⟨0, _⟩ => rfl
  | ⟨1, _⟩ => rfl
  | ⟨2, _⟩ => rfl
  | ⟨3, _⟩ => rfl

/-- and the weights at those of the first chunk. -/
theorem start8 (h : Fin 4) (j : Fin 512) (t : Fin 1024) :
    arg8.view.read (Elt Ideal) (arg8.view.writes (Elt Ideal) arg8.view.junk
      [⟨Rect.unit (s := S4x512x1024) ![3, 0, 0] S1x512x1024.size inb_S4x512x1024_S1x512x1024_3_0_0, firsts arg3 arg4 X3 X4 3⟩,
        ⟨Rect.unit (s := S4x512x1024) ![2, 0, 0] S1x512x1024.size inb_S4x512x1024_S1x512x1024_2_0_0, firsts arg3 arg4 X3 X4 2⟩,
        ⟨Rect.unit (s := S4x512x1024) ![1, 0, 0] S1x512x1024.size inb_S4x512x1024_S1x512x1024_1_0_0, firsts arg3 arg4 X3 X4 1⟩,
        ⟨Rect.unit (s := S4x512x1024) ![0, 0, 0] S1x512x1024.size inb_S4x512x1024_S1x512x1024_0_0_0, firsts arg3 arg4 X3 X4 0⟩]) (ix3 h j t)
      = weight (arg3.view.read (Elt Ideal) X3) (arg4.view.read (Elt Ideal) X4) 0 h j t := by
  refine (read_heads arg8.view _ (head_inb 512 1024) (firsts arg3 arg4 X3 X4) [] h j t).trans ?_
  rw [firsts_eq]
  exact weight_piece arg3 arg4 X3 X4 _ 0 rfl _ h _ j t

end Block

set_option maxHeartbeats 400000 in
theorem out1_eq (c : Dev nD) (i : grid1.Coords) (arg3 : Memref sig .tc .vmem S4x128x1024 .bf16) (harg3 : arg3.IsWhole) (arg4 : Memref sig .tc .vmem S8192x128 .bf16) (harg4 : arg4.IsWhole)
    (arg5 : Memref sig .tc .vmem S1x16x144x512 .bf16) (harg5 : arg5.IsWhole) (arg6 : Memref sig .tc .vmem S1024x512 .bf16) (harg6 : arg6.IsWhole)
    (arg7 : Memref sig .tc .vmem S4x144x1024 .f32) (harg7 : arg7.IsWhole) (arg8 : Memref sig .tc .vmem S4x512x1024 .bf16) (harg8 : arg8.IsWhole)
    (q : Vec Ideal S4x128x1024 .bf16) (k : Vec Ideal S8192x128 .bf16) (v : Vec Ideal S1x16x144x512 .bf16) (t : Fin 1024) (h : Fin 4) (d : Fin 128) :
    out1_A_3 c i arg3 harg3 arg4 harg4 arg5 harg5 arg6 harg6 arg7 harg7 arg8 harg8 q k v (ix2 t ⟨h.val * 128 + d.val, by omega⟩)
      = Ideal.div (gains q k v h ⟨d.val, by omega⟩ t 16) (gains q k v h ⟨128, by omega⟩ t 16) := by
  unfold out1_A_3 kernelRun1_A
  dsimp only
  sl_unfold_words
  have key : ∀ f7 f8, (∀ (h : Fin 4) (r : Fin 144) (t : Fin 1024), arg7.view.read (Elt Ideal) f7 (ix3 h r t) = gains q k v h r t 15)
      → (∀ (h : Fin 4) (j : Fin 512) (t : Fin 1024), arg8.view.read (Elt Ideal) f8 (ix3 h j t) = weight q k 15 h j t)
      → k1_pay2 (arg7.view.readAt (Elt Ideal) (Rect.unit (s := S4x144x1024) ![h.val, 0, 0] S1x144x1024.size (head_inb 144 1024 h)).toLoadRect
          (lastAcc arg5 arg7 arg8 (harg5.unread v) f7 f8)) (ix2 t d)
        = Ideal.div (gains q k v h ⟨d.val, by omega⟩ t 16) (gains q k v h ⟨128, by omega⟩ t 16) := by
    intro f7 f8 h7 h8
    have e : ∀ r : Fin 144, arg7.view.readAt (Elt Ideal) (Rect.unit (s := S4x144x1024) ![h.val, 0, 0] S1x144x1024.size (head_inb 144 1024 h)).toLoadRect
        (lastAcc arg5 arg7 arg8 (harg5.unread v) f7 f8) (ix3 0 r t) = gains q k v h r t 16 := fun r => by
      refine (readAt_head arg7.view _ h _ r t).trans ((lastAcc_eq arg5 arg7 arg8 _ f7 f8 h r t).trans ?_)
      rw [h7, harg5.read_unread]
      refine Eq.trans ?_ (gains_succ q k v h r t 15).symm
      exact congrArg _ (Finset.sum_congr rfl fun j _ => congrArg _ (h8 h j t))
    exact (finish_apply _ t d).trans (congrArg₂ Ideal.div (e ⟨d.val, by omega⟩) (e ⟨128, by omega⟩))
  generalize hp : pb_k1_t1 (F := Ideal) Variants.none c none i arg3 harg3 arg4 harg4 arg5 harg5 arg6 harg6 arg7 harg7 arg8 harg8 _ _ _ _ _ _ _ _ = P
  generalize hL7 : P.1 ++ _ = L7
  generalize hL8 : P.2 ++ _ = L8
  refine (read_cols _ _ (results arg7 (lasts arg7 arg8 _ L7 L8)) t h d).trans ?_
  rw [results_eq, lasts_eq]
  refine key _ _ ?_ ?_
  · intro h r t
    rw [← hL7, View.writes_append, ← hp, show Scf.trips k1_t1_loop.lb k1_t1_loop.ub k1_t1_loop.st = 15 from trips_eq]
    refine (pb_eq Variants.none c none i arg3 harg3 arg4 harg4 arg5 harg5 arg6 harg6 arg7 harg7 arg8 harg8 _ _ (harg3.unread q) (harg4.unread k) (harg5.unread v)
      _ _ (start7 arg7) (fun h j t => ?_) 15 (by decide)).1 h r t |>.trans ?_
    · refine (start8 arg3 arg4 arg8 (harg3.unread q) (harg4.unread k) h j t)
    · rw [harg3.read_unread, harg4.read_unread, harg5.read_unread]
  · intro h j t
    rw [← hL8, View.writes_append, ← hp, show Scf.trips k1_t1_loop.lb k1_t1_loop.ub k1_t1_loop.st = 15 from trips_eq]
    refine (pb_eq Variants.none c none i arg3 harg3 arg4 harg4 arg5 harg5 arg6 harg6 arg7 harg7 arg8 harg8 _ _ (harg3.unread q) (harg4.unread k) (harg5.unread v)
      _ _ (start7 arg7) (fun h j t => ?_) 15 (by decide)).2 h j t |>.trans ?_
    · refine (start8 arg3 arg4 arg8 (harg3.unread q) (harg4.unread k) h j t)
    · rw [harg3.read_unread, harg4.read_unread]
      rfl

end Cert.Attn

end
-- ==== Proof.AttnArray.lean ====
module

public import proofs.«01_k».proof.Proof.AttnBlock
public import Idealize.ShloMosaic.Lib.Pipeline.ValueKit

@[expose] public section

set_option maxRecDepth 16384

noncomputable section

/-! The whole result of the attention, from the three arrays it reads. -/

namespace Cert.Attn

open Cert.KernelIdeal Cert.KernelIdeal.Gen Idealize.ShloMosaic Idealize.ShloMosaic.TcCoe Idealize.SL.Sem

/-- The unnormalised weight of key `s` for query `T` of head `h`; four heads share a group of keys. -/
def bigWeight (q : S16x128x8192.Idx → EReal) (k : S8192x512.Idx → EReal) (h : Fin 16) (s T : Fin 8192) : EReal :=
  Ideal.exp2 (∑ d : Fin 128, k (ix2 s ⟨h.val / 4 * 128 + d.val, by omega⟩) * q (ix3 h d T))

/-- Row `r` of head `h`'s accumulator after all chunks. -/
def bigSum (q : S16x128x8192.Idx → EReal) (k : S8192x512.Idx → EReal) (v : S4x16x144x512.Idx → EReal) (h : Fin 16) (r : Fin 144) (T : Fin 8192) : EReal :=
  ∑ c : Fin 16, ∑ j : Fin 512, v (ix4 ⟨h.val / 4, by omega⟩ c r j) * bigWeight q k h ⟨c.val * 512 + j.val, by omega⟩ T

/-- The attention's result at query `T` and column `n`. -/
def attended (q : S16x128x8192.Idx → EReal) (k : S8192x512.Idx → EReal) (v : S4x16x144x512.Idx → EReal) (T : Fin 8192) (n : Fin 2048) : EReal :=
  Ideal.div (bigSum q k v ⟨n.val / 128, by omega⟩ ⟨n.val % 128, by omega⟩ T) (bigSum q k v ⟨n.val / 128, by omega⟩ ⟨128, by omega⟩ T)

theorem index1_0 : ∀ t : Fin grid1.N, win1_0.index t = ![t.val / 8, 0, t.val % 8] := by decide +kernel
theorem index1_1 : ∀ t : Fin grid1.N, win1_1.index t = ![0, t.val / 8] := by decide +kernel
theorem index1_2 : ∀ t : Fin grid1.N, win1_2.index t = ![t.val / 8, 0, 0, 0] := by decide +kernel
theorem index1_3 : ∀ t : Fin grid1.N, win1_3.index t = ![t.val % 8, t.val / 8] := by decide +kernel

variable (V : (c : Dev nD) → (b : Ref sig .tc) → Buf (Elt Ideal) ((c : Thread nD τ).loc b))

variable (c : Dev nD) (Q : S16x128x8192.Idx → EReal) (K : S8192x512.Idx → EReal) (W : S4x16x144x512.Idx → EReal)

theorem point_lt (t : Fin cfg1.N) : t.val < 32 := lt_of_lt_of_eq t.isLt (by decide +kernel)

theorem qblock (hQ : V c main_v43_0 = Q) (t : Fin cfg1.N) (h : Fin 4) (d : Fin 128) (u : Fin 1024) :
    iblk1 (F := Ideal) V c 0 t (ix3 h d u)
      = Q (ix3 ⟨t.val / 8 * 4 + h.val, by have := point_lt t; omega⟩ d ⟨t.val % 8 * 1024 + u.val, by omega⟩) := by
  subst hQ
  blk_simp [iblk1]
  refine congrArg (V c main_v43_0) (funext fun a => Fin.ext ?_)
  match a with
  | ⟨0, _⟩ => blk_simp [index1_0]
  | ⟨1, _⟩ => blk_simp [index1_0]
  | ⟨2, _⟩ => blk_simp [index1_0]

theorem kblock (hK : V c main_v43_1 = K) (t : Fin cfg1.N) (s : Fin 8192) (d : Fin 128) :
    iblk1 (F := Ideal) V c 1 t (ix2 s d) = K (ix2 s ⟨t.val / 8 * 128 + d.val, by have := point_lt t; omega⟩) := by
  subst hK
  blk_simp [iblk1]
  refine congrArg (V c main_v43_1) (funext fun a => Fin.ext ?_)
  match a with
  | ⟨0, _⟩ => blk_simp [index1_1]
  | ⟨1, _⟩ => blk_simp [index1_1]

theorem vblock (hW : V c main_v43_2 = W) (t : Fin cfg1.N) (n : Fin 16) (r : Fin 144) (j : Fin 512) :
    iblk1 (F := Ideal) V c 2 t (ix4 0 n r j) = W (ix4 ⟨t.val / 8, by have := point_lt t; omega⟩ n r j) := by
  subst hW
  blk_simp [iblk1]
  refine congrArg (V c main_v43_2) (funext fun a => Fin.ext ?_)
  match a with
  | ⟨0, _⟩ => blk_simp [index1_2]; rfl
  | ⟨1, _⟩ => blk_simp [index1_2]
  | ⟨2, _⟩ => blk_simp [index1_2]
  | ⟨3, _⟩ => blk_simp [index1_2]

/-- One block's sums are the whole arrays' at the block's place. -/
theorem gains_block (hQ : V c main_v43_0 = Q) (hK : V c main_v43_1 = K) (hW : V c main_v43_2 = W) (t : Fin cfg1.N)
    (h : Fin 4) (r : Fin 144) (u : Fin 1024) (H : Fin 16) (T : Fin 8192) (hH : H.val = t.val / 8 * 4 + h.val) (hT : T.val = t.val % 8 * 1024 + u.val) :
    gains (iblk1 (F := Ideal) V c 0 t) (iblk1 (F := Ideal) V c 1 t) (iblk1 (F := Ideal) V c 2 t) h r u 16 = bigSum Q K W H r T := by
  have e1 : H = ⟨t.val / 8 * 4 + h.val, by have := point_lt t; omega⟩ := Fin.ext hH
  have e2 : T = ⟨t.val % 8 * 1024 + u.val, by omega⟩ := Fin.ext hT
  have e3 : H.val / 4 = t.val / 8 := by omega
  unfold gains bigSum
  rw [Finset.sum_range]
  refine Finset.sum_congr rfl fun n _ => ?_
  rw [dif_pos n.isLt]
  unfold gain
  refine Finset.sum_congr rfl fun j _ => congrArg₂ (· * ·) ?_ ?_
  · rw [vblock V c W hW t]
    exact congrArg W (congrArg (fun g : Fin 4 => ix4 g n r j) (Fin.ext e3.symm))
  · unfold weight bigWeight
    refine congrArg Ideal.exp2 (Finset.sum_congr rfl fun d _ => congrArg₂ (· * ·) ?_ ?_)
    · rw [kblock V c K hK t]
      exact congrArg K (congrArg₂ (fun (a : Fin 8192) (b : Fin 512) => ix2 a b) rfl (Fin.ext (by show t.val / 8 * 128 + d.val = H.val / 4 * 128 + d.val; rw [e3])))
    · rw [qblock V c Q hQ t, e1, e2]

theorem array1 (hQ : V c main_v43_0 = Q) (hK : V c main_v43_1 = K) (hW : V c main_v43_2 = W) :
    (dat1 (F := Ideal) V c).arrAt 3 cfg1.N = fun y : S8192x2048.Idx => attended Q K W (y 0) (y 1) := by
  refine (dat1 (F := Ideal) V c).arrAt_eq_of_covers 3 _ (by decide +kernel) fun t hf y => ?_
  blk_simp
  rw [after1_3]
  unfold outsAt1
  have hN := point_lt t
  change S1024x512.Idx at y
  idx_vars y
  have hn : y1 = ⟨(⟨y1.val / 128, by omega⟩ : Fin 4).val * 128 + (⟨y1.val % 128, by omega⟩ : Fin 128).val, by show y1.val / 128 * 128 + y1.val % 128 < 512; omega⟩ :=
    Fin.ext (by show y1.val = y1.val / 128 * 128 + y1.val % 128; omega)
  refine (congrArg _ (congrArg (fun m : Fin 512 => ix2 y0 m) hn)).trans
    ((out1_eq c _ _ _ _ _ _ _ _ _ _ _ _ _ _ _ _ y0 ⟨y1.val / 128, by omega⟩ ⟨y1.val % 128, by omega⟩).trans ?_)
  have e0 : (((View.whole main_v44).slice (win1_3.rect t)).emb (ix2 y0 y1) 0).val = t.val % 8 * 1024 + y0.val := by blk_simp [index1_3]
  have e1 : (((View.whole main_v44).slice (win1_3.rect t)).emb (ix2 y0 y1) 1).val = t.val / 8 * 512 + y1.val := by blk_simp [index1_3]
  generalize ((View.whole main_v44).slice (win1_3.rect t)).emb (ix2 y0 y1) 0 = T at e0 ⊢
  generalize ((View.whole main_v44).slice (win1_3.rect t)).emb (ix2 y0 y1) 1 = N at e1 ⊢
  have eh : N.val / 128 = t.val / 8 * 4 + y1.val / 128 := by rw [e1]; omega
  have er : y1.val % 128 = N.val % 128 := by rw [e1]; omega
  unfold attended
  exact congrArg₂ Ideal.div
    ((gains_block V c Q K W hQ hK hW t ⟨y1.val / 128, by omega⟩ ⟨y1.val % 128, by omega⟩ y0 _ T eh e0).trans (congrArg (fun r => bigSum Q K W _ r T) (Fin.ext er)))
    (gains_block V c Q K W hQ hK hW t ⟨y1.val / 128, by omega⟩ ⟨128, by omega⟩ y0 _ T eh e0)

end Cert.Attn

end
-- ==== Proof.Run.lean ====
module

public import proofs.«01_k».proof.Proof.Tables
public import proofs.«01_k».proof.Proof.AttnArray

@[expose] public section

set_option maxRecDepth 16384

noncomputable section

/-! The whole program: what its result holds, as a function of its arguments. -/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

set_option backward.isDefEq.respectTransparency.types false in
/-- Every weakly fair execution ends with the result at what the second kernel's pipeline leaves, and the arguments unchanged. -/
theorem run_result : θ_run defs (onTc (τ := τ) (main (F := F))) ⟨m, fun _ => 0, ρ⟩ (fun r => ∀ c : Dev nD,
      r.2.mem ((c.tc : Thread nD τ).loc main_v44) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c =>
      ⟨(h c _ (mem_uc main_v44 (by decide))).trans (hF1 m ρ c 3).symm,
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.KernelIdeal.Gen

namespace Cert.Attn

open Cert.KernelIdeal Cert.KernelIdeal.Gen Idealize.ShloMosaic Idealize.ShloMosaic.TcCoe Idealize.SL.Sem

/-- A rotated normalised head of token `T`, its 128 coordinates starting at column `o` of the projections. -/
def head (P : S8192x8192.Idx → EReal) (g : S1x128.Idx → EReal) (o : ℕ) (ho : o + 128 ≤ 8192) (T : Fin 8192) (d : Fin 128) : EReal :=
  rope (fun e => P (ix2 T ⟨o + e.val, by omega⟩)) (fun e => g (ix2 0 e)) (cosTab T) (sinTab T) d

/-- The unnormalised weight of key `s` for query `T` in head `h`. -/
def wgt (P : S8192x8192.Idx → EReal) (gq gk : S1x128.Idx → EReal) (h : Fin 16) (T s : Fin 8192) : EReal :=
  Ideal.exp2 (∑ d : Fin 128, head P gk (2048 + h.val / 4 * 128) (by omega) s d * (head P gq (h.val * 128) (by omega) T d * scale2))

/-- What the program computes, at token `T`, head `h` and coordinate `d`. -/
def result (P : S8192x8192.Idx → EReal) (gq gk : S1x128.Idx → EReal) (h : Fin 16) (d : Fin 128) (T : Fin 8192) : EReal :=
  Ideal.div (∑ s : Fin 8192, P (ix2 s ⟨2560 + h.val / 4 * 128 + d.val, by omega⟩) * wgt P gq gk h T s) (∑ s : Fin 8192, wgt P gq gk h T s)

variable (P : S8192x8192.Idx → EReal) (gq gk : S1x128.Idx → EReal) (g' : S128x1.Idx → EReal) (c s : S8192x128.Idx → EReal) (ct st : S128x8192.Idx → EReal)
  (hg : ∀ d, g' (ix2 d 0) = gq (ix2 0 d)) (hc : ∀ T d, c (ix2 T d) = cosTab T d) (hs : ∀ T d, s (ix2 T d) = sinTab T d)
  (hct : ∀ T d, ct (ix2 d T) = cosTab T d) (hst : ∀ T d, st (ix2 d T) = sinTab T d)

include hg hct hst in
theorem qArr_eq (h : Fin 16) (d : Fin 128) (T : Fin 8192) : qArr P g' ct st h d T = head P gq (h.val * 128) (by omega) T d * scale2 := by
  unfold qArr head
  simp only [hg, hct, hst]

include hc hs in
theorem kArr_eq (j : Fin 4) (d : Fin 128) (T : Fin 8192) : kArr P gk c s T ⟨j.val * 128 + d.val, by omega⟩ = head P gk (2048 + j.val * 128) (by omega) T d := by
  have e1 : (j.val * 128 + d.val) / 128 = j.val := by omega
  have e2 : (⟨(j.val * 128 + d.val) % 128, by omega⟩ : Fin 128) = d := Fin.ext (by dsimp only; omega)
  unfold kArr head
  simp only [hc, hs, e1, e2]

include hg hc hs hct hst in
theorem bigWeight_eq (h : Fin 16) (S T : Fin 8192) :
    bigWeight (fun y => qArr P g' ct st (y 0) (y 1) (y 2)) (fun y => kArr P gk c s (y 0) (y 1)) h S T = wgt P gq gk h T S := by
  unfold bigWeight wgt
  refine congrArg Ideal.exp2 (Finset.sum_congr rfl fun d _ => congrArg₂ (· * ·) ?_ ?_)
  · exact kArr_eq P gk c s hc hs ⟨h.val / 4, by omega⟩ d S
  · exact qArr_eq P gq g' ct st hg hct hst h d T

include hg hc hs hct hst in
/-- A row of the accumulator, as one sum over the keys. -/
theorem bigSum_eq (h : Fin 16) (r : Fin 144) (T : Fin 8192) :
    bigSum (fun y => qArr P g' ct st (y 0) (y 1) (y 2)) (fun y => kArr P gk c s (y 0) (y 1)) (fun y => vArr P (y 0) (y 1) (y 2) (y 3)) h r T
      = ∑ S : Fin 8192, padded (fun e => P (ix2 S ⟨2560 + h.val / 4 * 128 + e.val, by omega⟩)) r * wgt P gq gk h T S := by
  rw [Fin.sum_univ_tiles 16 512 rfl]
  unfold bigSum
  refine Finset.sum_congr rfl fun n _ => Finset.sum_congr rfl fun j _ => congrArg₂ (· * ·) rfl ?_
  exact bigWeight_eq P gq gk g' c s ct st hg hc hs hct hst h _ T

include hg hc hs hct hst in
theorem attended_eq (h : Fin 16) (d : Fin 128) (T : Fin 8192) :
    attended (fun y => qArr P g' ct st (y 0) (y 1) (y 2)) (fun y => kArr P gk c s (y 0) (y 1)) (fun y => vArr P (y 0) (y 1) (y 2) (y 3)) T ⟨h.val * 128 + d.val, by omega⟩
      = result P gq gk h d T := by
  have e1 : (⟨(h.val * 128 + d.val) / 128, by omega⟩ : Fin 16) = h := Fin.ext (by dsimp only; omega)
  have e2 : (⟨(h.val * 128 + d.val) % 128, by omega⟩ : Fin 144) = ⟨d.val, by omega⟩ := Fin.ext (by dsimp only; omega)
  unfold attended result
  rw [bigSum_eq P gq gk g' c s ct st hg hc hs hct hst, bigSum_eq P gq gk g' c s ct st hg hc hs hct hst]
  simp only [e1, e2]
  refine congrArg₂ Ideal.div (Finset.sum_congr rfl fun S _ => congrArg₂ (· * ·) ?_ rfl) (Finset.sum_congr rfl fun S _ => ?_)
  · unfold padded; rw [dif_pos d.isLt]
    exact congrArg (fun n : Fin 8192 => P (ix2 S n)) (Fin.ext (by dsimp only; omega))
  · unfold padded; rw [dif_neg (by decide), if_pos rfl, one_mul]

variable (m : (ℓ : Loc nD τ sig) → Buf (Elt Ideal) ℓ) (ρ : Dev nD → PrngReg) (dev : Dev nD)

theorem final_result (h : Fin 16) (d : Fin 128) (T : Fin 8192) :
    (dat1 (F := Ideal) (V2 m ρ) dev).arrAt 3 cfg1.N (ix2 T ⟨h.val * 128 + d.val, by omega⟩)
      = result (m ((dev.tc : Thread nD τ).loc main_arg0)) (m ((dev.tc : Thread nD τ).loc main_arg1)) (m ((dev.tc : Thread nD τ).loc main_arg2)) h d T := by
  have a0 : V1 m ρ dev main_arg0 = m ((dev.tc : Thread nD τ).loc main_arg0) := W1_args m ρ dev main_arg0 (by decide)
  have a2 : V1 m ρ dev main_arg2 = m ((dev.tc : Thread nD τ).loc main_arg2) := W1_args m ρ dev main_arg2 (by decide)
  have hQ := (W2_arr m ρ dev 9).trans (array0_q (V1 m ρ) dev)
  have hK := (W2_arr m ρ dev 10).trans (array0_k (V1 m ρ) dev)
  have hW := (W2_arr m ρ dev 11).trans (array0_v (V1 m ρ) dev)
  rw [a0] at hQ hK hW
  rw [a2] at hK
  refine (congrFun (array1 (V2 m ρ) dev _ _ _ hQ hK hW) (ix2 T ⟨h.val * 128 + d.val, by omega⟩)).trans ?_
  refine attended_eq _ _ _ _ _ _ _ _ ?_ ?_ ?_ ?_ ?_ h d T
  · exact gain_column (W0 m ρ dev)
  · exact table_cos (W0 m ρ dev)
  · exact table_sin (W0 m ρ dev)
  · exact table_cos_t (W0 m ρ dev)
  · exact table_sin_t (W0 m ρ dev)

end Cert.Attn

end
-- ==== Proof.RefValue.lean ====
module

public import proofs.«01_k».proof.Proof.Gen.ReferenceIdeal.Read
public import proofs.«01_k».proof.Proof.Run
public import Idealize.ShloMosaic.Lib.Pointwise

@[expose] public section

set_option maxRecDepth 16384

noncomputable section

namespace Cert.Attn

open Cert.ReferenceIdeal Cert.ReferenceIdeal.Gen Cert.ReferenceIdeal.Read Idealize.ShloMosaic Idealize.ShloMosaic.TcCoe Idealize.SL.Sem

variable (x0 : (⟨S8192x8192, .bf16⟩ : BufTy).Contents (Elt Ideal))
  (x1 x2 : (⟨S1x128, .f32⟩ : BufTy).Contents (Elt Ideal))

theorem ref_out (h : Fin 16) (d : Fin 128) (T : Fin 8192) (hc : h.val * 128 + d.val < 2048) :
    val_main_v153 (F := Ideal) x0 x1 x2 (ix2 T ⟨h.val * 128 + d.val, hc⟩) =
      ∑ k : Fin 8192, val_main_v6 (F := Ideal) x0 (ix3 k ⟨h.val / 4, by omega⟩ d) *
        val_main_v149 (F := Ideal) x0 x1 x2 (ix4 ⟨h.val / 4, by omega⟩ ⟨h.val % 4, by omega⟩ T k) := by
  rw [val_main_v153_apply, val_main_v152_apply, val_main_v151_apply, val_main_v150_apply]
  refine Finset.sum_congr rfl fun k _ => congrArg₂ _ (congrArg _ ?_) (congrArg _ ?_)
  · funext a
    match a with
    | 0 => rfl
    | 1 => apply Fin.ext; show _ = h.val / 4; simp [ix2]; omega
    | 2 => apply Fin.ext; show _ = d.val; simp [ix2]; omega
  · funext a
    match a with
    | 0 => apply Fin.ext; show _ = h.val / 4; simp [ix2]; omega
    | 1 => apply Fin.ext; show _ = h.val % 4; simp [ix2]; omega
    | 2 => apply Fin.ext; show _ = T.val; simp [ix2]; omega
    | 3 => rfl

theorem ref_v (k : Fin 8192) (c : Fin 4) (d : Fin 128) (hc : 2560 + c.val * 128 + d.val < 8192) :
    val_main_v6 (F := Ideal) x0 (ix3 k c d) = x0 (ix2 k ⟨2560 + c.val * 128 + d.val, hc⟩) := by
  pointwise [val_main_v6, val_main_v5, val_main_v0]
  exact congrArg x0 (congrArg (ix2 k) (Fin.ext (Nat.add_assoc _ _ _).symm))

theorem ref_q (T : Fin 8192) (h : Fin 16) (d : Fin 128) (hc : h.val * 128 + 128 ≤ 8192) :
    val_main_v20 (F := Ideal) x0 x1 (ix3 T h d) =
      nrm (fun e => x0 (ix2 T ⟨h.val * 128 + e.val, by omega⟩)) (fun e => x1 (ix2 0 e)) d := by
  pointwise [val_main_v20, val_main_v19, val_main_v18, val_main_v17, val_main_v16, val_main_v15, val_main_v14, val_main_v13, val_main_v12, val_main_v11, val_main_v10, val_main_v9, val_main_v8, val_main_v7, val_main_v2, val_main_v1, val_main_v0, val_main_cst, val_main_cst_0, val_main_cst_1]
  rfl

theorem ref_k (T : Fin 8192) (h : Fin 4) (d : Fin 128) (hc : 2048 + h.val * 128 + 128 ≤ 8192) :
    val_main_v34 (F := Ideal) x0 x2 (ix3 T h d) =
      nrm (fun e => x0 (ix2 T ⟨2048 + h.val * 128 + e.val, by omega⟩)) (fun e => x2 (ix2 0 e)) d := by
  pointwise [val_main_v34, val_main_v33, val_main_v32, val_main_v31, val_main_v30, val_main_v29, val_main_v28, val_main_v27, val_main_v26, val_main_v25, val_main_v24, val_main_v23, val_main_v22, val_main_v21, val_main_v4, val_main_v3, val_main_v0, val_main_cst_2, val_main_cst_3, val_main_cst_4]
  simp only [Nat.add_assoc]
  rfl

theorem ref_row (T : Fin 8192) (e : Fin 32) : val_main_v57 (F := Ideal) (ix2 T e) = angle (T.val / 64) e.val := by
  pointwise [val_main_v57, val_main_v56, val_main_v55, val_main_v54, val_main_v53, val_main_v52, val_main_v51, val_main_v50, val_main_v49, val_main_v48, val_main_v47, val_main_v46, val_main_v45, val_main_v44, val_main_v43, val_main_v38, val_main_v37, val_main_v36, val_main_v35, val_main_cst_5, val_main_cst_6, val_main_cst_7, val_main_cst_8]
  rfl

theorem ref_col (T : Fin 8192) (e : Fin 32) : val_main_v62 (F := Ideal) (ix2 T e) = angle (T.val % 64) e.val := by
  pointwise [val_main_v62, val_main_v61, val_main_v60, val_main_v59, val_main_v58, val_main_v52, val_main_v51, val_main_v50, val_main_v49, val_main_v48, val_main_v47, val_main_v46, val_main_v45, val_main_v44, val_main_v43, val_main_v42, val_main_v41, val_main_v40, val_main_v39, val_main_cst_5, val_main_cst_6, val_main_cst_7, val_main_cst_8]
  rfl

theorem q_row_low (T : Fin 8192) (h : Fin 16) (e : Fin 32) :
    val_main_v76 (F := Ideal) x0 x1 (ix3 T h e) =
      val_main_v20 (F := Ideal) x0 x1 (ix3 T h ⟨0 + e.val, by omega⟩) * Ideal.cos (angle (T.val / 64) e.val) -
        val_main_v20 (F := Ideal) x0 x1 (ix3 T h ⟨32 + e.val, by omega⟩) * Ideal.sin (angle (T.val / 64) e.val) := by
  pointwise [val_main_v76, val_main_v75, val_main_v74, val_main_v73, val_main_v72, val_main_v71, val_main_v70, val_main_v69, val_main_v68, val_main_v67, val_main_v64, val_main_v63]
  rw [ref_row T e]

theorem q_row_high (T : Fin 8192) (h : Fin 16) (e : Fin 32) :
    val_main_v81 (F := Ideal) x0 x1 (ix3 T h e) =
      val_main_v20 (F := Ideal) x0 x1 (ix3 T h ⟨32 + e.val, by omega⟩) * Ideal.cos (angle (T.val / 64) e.val) +
        val_main_v20 (F := Ideal) x0 x1 (ix3 T h ⟨0 + e.val, by omega⟩) * Ideal.sin (angle (T.val / 64) e.val) := by
  pointwise [val_main_v81, val_main_v80, val_main_v79, val_main_v78, val_main_v77, val_main_v71, val_main_v70, val_main_v69, val_main_v68, val_main_v67, val_main_v64, val_main_v63]
  rw [ref_row T e]

theorem q_col_low (T : Fin 8192) (h : Fin 16) (e : Fin 32) :
    val_main_v92 (F := Ideal) x0 x1 (ix3 T h e) =
      val_main_v20 (F := Ideal) x0 x1 (ix3 T h ⟨64 + e.val, by omega⟩) * Ideal.cos (angle (T.val % 64) e.val) -
        val_main_v20 (F := Ideal) x0 x1 (ix3 T h ⟨96 + e.val, by omega⟩) * Ideal.sin (angle (T.val % 64) e.val) := by
  pointwise [val_main_v92, val_main_v91, val_main_v90, val_main_v89, val_main_v88, val_main_v87, val_main_v86, val_main_v85, val_main_v84, val_main_v83, val_main_v66, val_main_v65]
  rw [ref_col T e]
  rw [show (⟨64 + (32 + e.val), by omega⟩ : Fin 128) = ⟨96 + e.val, by omega⟩ from Fin.ext (Nat.add_assoc 64 32 e.val).symm]

theorem q_col_high (T : Fin 8192) (h : Fin 16) (e : Fin 32) :
    val_main_v97 (F := Ideal) x0 x1 (ix3 T h e) =
      val_main_v20 (F := Ideal) x0 x1 (ix3 T h ⟨96 + e.val, by omega⟩) * Ideal.cos (angle (T.val % 64) e.val) +
        val_main_v20 (F := Ideal) x0 x1 (ix3 T h ⟨64 + e.val, by omega⟩) * Ideal.sin (angle (T.val % 64) e.val) := by
  pointwise [val_main_v97, val_main_v96, val_main_v95, val_main_v94, val_main_v93, val_main_v87, val_main_v86, val_main_v85, val_main_v84, val_main_v83, val_main_v66, val_main_v65]
  rw [ref_col T e]
  rw [show (⟨64 + (32 + e.val), by omega⟩ : Fin 128) = ⟨96 + e.val, by omega⟩ from Fin.ext (Nat.add_assoc 64 32 e.val).symm]

theorem k_row_low (T : Fin 8192) (h : Fin 4) (e : Fin 32) :
    val_main_v110 (F := Ideal) x0 x2 (ix3 T h e) =
      val_main_v34 (F := Ideal) x0 x2 (ix3 T h ⟨0 + e.val, by omega⟩) * Ideal.cos (angle (T.val / 64) e.val) -
        val_main_v34 (F := Ideal) x0 x2 (ix3 T h ⟨32 + e.val, by omega⟩) * Ideal.sin (angle (T.val / 64) e.val) := by
  pointwise [val_main_v110, val_main_v109, val_main_v108, val_main_v107, val_main_v106, val_main_v105, val_main_v104, val_main_v103, val_main_v102, val_main_v101, val_main_v64, val_main_v63]
  rw [ref_row T e]

theorem k_row_high (T : Fin 8192) (h : Fin 4) (e : Fin 32) :
    val_main_v115 (F := Ideal) x0 x2 (ix3 T h e) =
      val_main_v34 (F := Ideal) x0 x2 (ix3 T h ⟨32 + e.val, by omega⟩) * Ideal.cos (angle (T.val / 64) e.val) +
        val_main_v34 (F := Ideal) x0 x2 (ix3 T h ⟨0 + e.val, by omega⟩) * Ideal.sin (angle (T.val / 64) e.val) := by
  pointwise [val_main_v115, val_main_v114, val_main_v113, val_main_v112, val_main_v111, val_main_v105, val_main_v104, val_main_v103, val_main_v102, val_main_v101, val_main_v64, val_main_v63]
  rw [ref_row T e]

theorem k_col_low (T : Fin 8192) (h : Fin 4) (e : Fin 32) :
    val_main_v126 (F := Ideal) x0 x2 (ix3 T h e) =
      val_main_v34 (F := Ideal) x0 x2 (ix3 T h ⟨64 + e.val, by omega⟩) * Ideal.cos (angle (T.val % 64) e.val) -
        val_main_v34 (F := Ideal) x0 x2 (ix3 T h ⟨96 + e.val, by omega⟩) * Ideal.sin (angle (T.val % 64) e.val) := by
  pointwise [val_main_v126, val_main_v125, val_main_v124, val_main_v123, val_main_v122, val_main_v121, val_main_v120, val_main_v119, val_main_v118, val_main_v117, val_main_v66, val_main_v65]
  rw [ref_col T e]
  rw [show (⟨64 + (32 + e.val), by omega⟩ : Fin 128) = ⟨96 + e.val, by omega⟩ from Fin.ext (Nat.add_assoc 64 32 e.val).symm]

theorem k_col_high (T : Fin 8192) (h : Fin 4) (e : Fin 32) :
    val_main_v131 (F := Ideal) x0 x2 (ix3 T h e) =
      val_main_v34 (F := Ideal) x0 x2 (ix3 T h ⟨96 + e.val, by omega⟩) * Ideal.cos (angle (T.val % 64) e.val) +
        val_main_v34 (F := Ideal) x0 x2 (ix3 T h ⟨64 + e.val, by omega⟩) * Ideal.sin (angle (T.val % 64) e.val) := by
  pointwise [val_main_v131, val_main_v130, val_main_v129, val_main_v128, val_main_v127, val_main_v121, val_main_v120, val_main_v119, val_main_v118, val_main_v117, val_main_v66, val_main_v65]
  rw [ref_col T e]
  rw [show (⟨64 + (32 + e.val), by omega⟩ : Fin 128) = ⟨96 + e.val, by omega⟩ from Fin.ext (Nat.add_assoc 64 32 e.val).symm]

/-- A head rotated quarter by quarter is `rope` with the signed table. -/
theorem quarters (x g : Fin 128 → EReal) (T : Fin 8192) (d : Fin 128) :
    (if h : d.val < 64 then
      if h' : d.val < 32 then
        nrm x g ⟨0 + d.val, by omega⟩ * Ideal.cos (angle (T.val / 64) d.val) - nrm x g ⟨32 + d.val, by omega⟩ * Ideal.sin (angle (T.val / 64) d.val)
      else
        nrm x g ⟨32 + (d.val - 32), by omega⟩ * Ideal.cos (angle (T.val / 64) (d.val - 32)) + nrm x g ⟨0 + (d.val - 32), by omega⟩ * Ideal.sin (angle (T.val / 64) (d.val - 32))
    else
      if h' : d.val - 64 < 32 then
        nrm x g ⟨64 + (d.val - 64), by omega⟩ * Ideal.cos (angle (T.val % 64) (d.val - 64)) - nrm x g ⟨96 + (d.val - 64), by omega⟩ * Ideal.sin (angle (T.val % 64) (d.val - 64))
      else
        nrm x g ⟨96 + (d.val - 64 - 32), by omega⟩ * Ideal.cos (angle (T.val % 64) (d.val - 64 - 32)) + nrm x g ⟨64 + (d.val - 64 - 32), by omega⟩ * Ideal.sin (angle (T.val % 64) (d.val - 64 - 32)))
      = rope x g (cosTab T) (sinTab T) d := by
  have at_ : ∀ (i : ℕ) (hi : i < 128), i = d.val → nrm x g ⟨i, hi⟩ = nrm x g d := fun i hi e => congrArg (nrm x g) (Fin.ext e)
  have at_mate : ∀ (i : ℕ) (hi : i < 128), i = (mate d).val → nrm x g ⟨i, hi⟩ = nrm x g (mate d) := fun i hi e => congrArg (nrm x g) (Fin.ext e)
  unfold rope
  by_cases h1 : d.val < 64
  · rw [dif_pos h1]
    by_cases h2 : d.val < 32
    · rw [dif_pos h2, cosTab_row T d d.val h1 (by omega), sub_eq_add_neg, ← mul_neg, sinTab_row_neg T d d.val h1 (by omega) (by omega),
        at_ (0 + d.val) _ (by omega), at_mate (32 + d.val) _ (by unfold mate; split <;> simp only <;> omega)]
    · rw [dif_neg h2, cosTab_row T d _ h1 (by omega), sinTab_row T d _ h1 (by omega) (by omega),
        at_ (32 + (d.val - 32)) _ (by omega), at_mate (0 + (d.val - 32)) _ (by unfold mate; split <;> simp only <;> omega)]
  · rw [dif_neg h1]
    by_cases h2 : d.val - 64 < 32
    · rw [dif_pos h2, cosTab_col T d _ h1 (by omega), sub_eq_add_neg, ← mul_neg, sinTab_col_neg T d _ h1 (by omega) (by omega),
        at_ (64 + (d.val - 64)) _ (by omega), at_mate (96 + (d.val - 64)) _ (by unfold mate; split <;> simp only <;> omega)]
    · rw [dif_neg h2, cosTab_col T d _ h1 (by omega), sinTab_col T d _ h1 (by omega) (by omega),
        at_ (96 + (d.val - 64 - 32)) _ (by omega), at_mate (64 + (d.val - 64 - 32)) _ (by unfold mate; split <;> simp only <;> omega)]

theorem ref_rot_q (T : Fin 8192) (a b : Fin 4) (d : Fin 128) (hc : (a.val * 4 + b.val) * 128 + 128 ≤ 8192) :
    val_main_v100 (F := Ideal) x0 x1 (ix4 T a b d) = head x0 x1 ((a.val * 4 + b.val) * 128) hc T d := by
  pointwise [val_main_v100, val_main_v99, val_main_v98, val_main_v82]
  have hq := fun e => ref_q x0 x1 T ⟨a.val * 4 + b.val, by omega⟩ e hc
  simp only [q_row_low, q_row_high, q_col_low, q_col_high, hq]
  exact quarters _ _ T d

theorem ref_rot_k (T : Fin 8192) (a : Fin 4) (d : Fin 128) (hc : 2048 + a.val * 128 + 128 ≤ 8192) :
    val_main_v133 (F := Ideal) x0 x2 (ix3 T a d) = head x0 x2 (2048 + a.val * 128) hc T d := by
  pointwise [val_main_v133, val_main_v132, val_main_v116]
  have hk := fun e => ref_k x0 x2 T a e hc
  simp only [k_row_low, k_row_high, k_col_low, k_col_high, hk]
  exact quarters _ _ T d

theorem ref_score (a b : Fin 4) (T k : Fin 8192) :
    val_main_v138 (F := Ideal) x0 x1 x2 (ix4 a b T k) =
      Ideal.div (∑ d : Fin 128, val_main_v133 (F := Ideal) x0 x2 (ix3 k a d) *
        val_main_v100 (F := Ideal) x0 x1 (ix4 T a b d)) (Ideal.sqrt (Ideal.ofBits .f32 0x43000000#32)) := by
  pointwise [val_main_v138, val_main_v137, val_main_v136, val_main_v135, val_main_v134, val_main_cst_9]

/-- The greatest of finitely many reals, and minus infinity, is a real. -/
theorem fold_max_real {n : ℕ} (hn : 0 < n) (f : Fin n → EReal) (hf : ∀ i, ∃ r : ℝ, f i = r) : ∃ r : ℝ, Finset.univ.fold max ⊥ f = r := by
  have h1 : Finset.univ.fold max ⊥ f < ⊤ := (Finset.fold_max_lt _).2 ⟨bot_lt_top, fun i _ => by obtain ⟨r, hr⟩ := hf i; rw [hr]; exact EReal.coe_lt_top r⟩
  have h2 : ⊥ < Finset.univ.fold max ⊥ f := (Finset.lt_fold_max _).2 (.inr ⟨⟨0, hn⟩, Finset.mem_univ _, by obtain ⟨r, hr⟩ := hf ⟨0, hn⟩; rw [hr]; exact EReal.bot_lt_coe r⟩)
  exact ⟨_, (EReal.coe_toReal h1.ne h2.ne').symm⟩

theorem minus_infinity : Ideal.ofBits .f32 0xFF800000#32 = ⊥ := by
  simp [Ideal.ofBits, Ideal.ieee]

theorem row_max_real (y : FVec Ideal S4x4x8192x8192 .f32) (j : S4x4x8192.Idx) (hy : ∀ i, ∃ r : ℝ, y i = r) :
    ∃ r : ℝ, Host.reduce FloatOps.maximumf y (val_main_cst_10 (F := Ideal)) reducesTo_S4x4x8192x8192_S4x4x8192_d3 h_S_ j = r := by
  have hr : S4x4x8192x8192.Reduces [3] S4x4x8192 := by decide
  have hb : (val_main_cst_10 (F := Ideal)) (Shape.Idx.first h_S_) = (⊥ : EReal) := minus_infinity
  rw [Host.reduce_eq_fold_single FloatOps.maximumf y _ _ hr, hb]
  exact fold_max_real (by decide) _ fun i => hy _

theorem top_real (hy : ∀ i, ∃ r : ℝ, val_main_v138 (F := Ideal) x0 x1 x2 i = r) (j : S4x4x8192.Idx) :
    ∃ r : ℝ, val_main_v141 (F := Ideal) x0 x1 x2 j = r := by
  obtain ⟨r, hr⟩ := row_max_real _ j hy
  refine ⟨r, ?_⟩
  rw [val_main_v141_apply, val_main_v140_apply, val_main_cst_11_apply]
  exact (congrArg₂ max minus_infinity hr).trans (max_eq_right bot_le)

theorem ref_exp (a b : Fin 4) (T k : Fin 8192) :
    val_main_v145 (F := Ideal) x0 x1 x2 (ix4 a b T k) = Ideal.exp (val_main_v138 (F := Ideal) x0 x1 x2 (ix4 a b T k) - val_main_v141 (F := Ideal) x0 x1 x2 (ix3 a b T)) := by
  pointwise [val_main_v145, val_main_v144, val_main_v143, val_main_v142]

theorem ref_prob (a b : Fin 4) (T k : Fin 8192) :
    val_main_v149 (F := Ideal) x0 x1 x2 (ix4 a b T k) =
      Ideal.div (val_main_v145 (F := Ideal) x0 x1 x2 (ix4 a b T k)) (∑ j : Fin 8192, val_main_v145 (F := Ideal) x0 x1 x2 (ix4 a b T j)) := by
  pointwise [val_main_v149, val_main_v148, val_main_v147, val_main_v146, val_main_cst_12]

theorem head_congr (P : S8192x8192.Idx → EReal) (g : S1x128.Idx → EReal) {o o' : ℕ} (e : o = o') (ho : o + 128 ≤ 8192) (ho' : o' + 128 ≤ 8192) (T : Fin 8192) (d : Fin 128) :
    head P g o ho T d = head P g o' ho' T d := by subst e; rfl

/-- The score of query head `h` at token `T` against token `s`, before the softmax. -/
def score (P : S8192x8192.Idx → EReal) (gq gk : S1x128.Idx → EReal) (h : Fin 16) (T s : Fin 8192) : EReal :=
  Ideal.div (∑ d : Fin 128, head P gk (2048 + h.val / 4 * 128) (by omega) s d * head P gq (h.val * 128) (by omega) T d)
    (Ideal.sqrt (Ideal.ofBits .f32 0x43000000#32))

theorem ref_score_head (h : Fin 16) (T k : Fin 8192) :
    val_main_v138 (F := Ideal) x0 x1 x2 (ix4 ⟨h.val / 4, by omega⟩ ⟨h.val % 4, by omega⟩ T k) = score x0 x1 x2 h T k := by
  rw [ref_score]
  refine congrArg (fun r => Ideal.div r _) (Finset.sum_congr rfl fun d _ => congrArg₂ _ ?_ ?_)
  · exact ref_rot_k x0 x2 k _ d (by simp only; omega)
  · exact (ref_rot_q x0 x1 T _ _ d (by simp only; omega)).trans (head_congr x0 x1 (by simp only; omega) _ _ T d)

/-- The reference's result: the softmax of the scores, applied to the values. -/
theorem ref_value (h : Fin 16) (d : Fin 128) (T : Fin 8192) (hc : h.val * 128 + d.val < 2048) :
    val_main_v153 (F := Ideal) x0 x1 x2 (ix2 T ⟨h.val * 128 + d.val, hc⟩) =
      ∑ k : Fin 8192, x0 (ix2 k ⟨2560 + h.val / 4 * 128 + d.val, by omega⟩) *
        Ideal.div (Ideal.exp (score x0 x1 x2 h T k - val_main_v141 (F := Ideal) x0 x1 x2 (ix3 ⟨h.val / 4, by omega⟩ ⟨h.val % 4, by omega⟩ T)))
          (∑ j : Fin 8192, Ideal.exp (score x0 x1 x2 h T j - val_main_v141 (F := Ideal) x0 x1 x2 (ix3 ⟨h.val / 4, by omega⟩ ⟨h.val % 4, by omega⟩ T))) := by
  rw [ref_out]
  refine Finset.sum_congr rfl fun k _ => congrArg₂ _ (ref_v x0 k _ d (by simp only; omega)) ?_
  rw [ref_prob]
  simp only [ref_exp, ref_score_head]

/-- Every score array entry is a score. -/
theorem ref_scores (i : S4x4x8192x8192.Idx) : ∃ h T k, val_main_v138 (F := Ideal) x0 x1 x2 i = score x0 x1 x2 h T k := by
  idx_vars i
  have ha : (⟨(i0.val * 4 + i1.val) / 4, by omega⟩ : Fin 4) = i0 := Fin.ext (by simp only; omega)
  have hb : (⟨(i0.val * 4 + i1.val) % 4, by omega⟩ : Fin 4) = i1 := Fin.ext (by simp only; omega)
  have e := ref_score_head x0 x1 x2 ⟨i0.val * 4 + i1.val, by omega⟩ i2 i3
  simp only [ha, hb] at e
  exact ⟨_, _, _, e⟩

end Cert.Attn

end
-- ==== Proof.Softmax.lean ====
module

public import proofs.«01_k».proof.Proof.RefValue

@[expose] public section

set_option maxRecDepth 16384

noncomputable section

/-! With finite gains every normalised head is real, so the scores are real, and the two ways of writing the softmax agree. -/

namespace Cert.Attn

open Cert.KernelIdeal Idealize.ShloMosaic Idealize.ShloMosaic.TcCoe Idealize.SL.Sem

def IsReal (x : EReal) : Prop := ∃ r : ℝ, x = r

theorem IsReal.mul {x y : EReal} : IsReal x → IsReal y → IsReal (x * y) := by
  rintro ⟨a, rfl⟩ ⟨b, rfl⟩; exact ⟨a * b, (EReal.coe_mul a b).symm⟩

theorem IsReal.add {x y : EReal} : IsReal x → IsReal y → IsReal (x + y) := by
  rintro ⟨a, rfl⟩ ⟨b, rfl⟩; exact ⟨a + b, (EReal.coe_add a b).symm⟩

theorem IsReal.neg {x : EReal} : IsReal x → IsReal (-x) := by
  rintro ⟨a, rfl⟩; exact ⟨-a, (EReal.coe_neg a).symm⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem word_128 : Ideal.ofBits .f32 0x43000000#32 = ((128 : ℝ) : EReal) := by
  simp [Ideal.ofBits, Ideal.ieee, -EReal.coe_mul]; norm_num

theorem word_64 : Ideal.ofBits .f32 1115684864#32 = ((64 : ℝ) : EReal) := by
  simp [Ideal.ofBits, Ideal.ieee, -EReal.coe_mul]; norm_num

theorem word_2 : Ideal.ofBits .f32 1073741824#32 = ((2 : ℝ) : EReal) := by
  simp [Ideal.ofBits, Ideal.ieee, -EReal.coe_mul]; norm_num

theorem word_10000 : Ideal.ofBits .f32 1176256512#32 = ((10000 : ℝ) : EReal) := by
  simp [Ideal.ofBits, Ideal.ieee, -EReal.coe_mul]; norm_num

theorem eps_pos : ∃ r : ℝ, 0 < r ∧ eps = r := by
  refine ⟨_, ?_, by unfold eps; simp [Ideal.ofBits, Ideal.ieee, -EReal.coe_mul]; rfl⟩
  norm_num

theorem square_nonneg (x : EReal) : 0 ≤ x * x := by
  induction x with
  | bot => simp
  | top => simp
  | coe r => exact_mod_cast mul_self_nonneg r

theorem square_infinite (x : EReal) (h : ¬ IsReal x) : x * x = ⊤ := by
  induction x with
  | bot => simp
  | top => simp
  | coe r => exact absurd ⟨r, rfl⟩ h

/-- A normalised entry is real whatever the head holds: an infinite entry makes the factor zero. -/
theorem nrm_real (x g : Fin 128 → EReal) (hg : ∀ d, IsReal (g d)) (d : Fin 128) : IsReal (nrm x g d) := by
  obtain ⟨ε, hε, he⟩ := eps_pos
  unfold nrm
  rw [he, word_128, Ideal.div_coe (by norm_num)]
  by_cases hx : ∀ e, IsReal (x e)
  · choose r hr using hx
    have hs : ∑ e, x e * x e = ((∑ e, r e * r e : ℝ) : EReal) := by
      rw [coe_sum]; exact Finset.sum_congr rfl fun e _ => by rw [hr e, EReal.coe_mul]
    have h0 : 0 ≤ ∑ e, r e * r e := Finset.sum_nonneg fun e _ => mul_self_nonneg _
    have h1 : 0 < (∑ e, r e * r e) * (1 / 128) + ε := by positivity
    rw [hs, ← EReal.coe_mul, ← EReal.coe_add, Ideal.rsqrt_coe, if_neg (not_lt.2 h1.le), if_neg h1.ne']
    exact (IsReal.mul ⟨_, hr d⟩ ⟨_, rfl⟩).mul (hg d)
  · push Not at hx
    obtain ⟨e, hx⟩ := hx
    have hs : ∑ e, x e * x e = ⊤ := top_le_iff.1 ((square_infinite _ hx).symm.le.trans
      (Finset.single_le_sum (f := fun e => x e * x e) (fun e _ => square_nonneg _) (Finset.mem_univ e)))
    rw [hs, EReal.top_mul_coe_of_pos (by norm_num), EReal.top_add_coe, Ideal.rsqrt_top, mul_zero, zero_mul]
    exact ⟨0, rfl⟩

theorem angle_real (p i : ℕ) : IsReal (angle p i) := by
  have hs : ∀ n : ℕ, ∃ r : ℝ, FloatOps.sitofp (F := Ideal) FTy.f32 (BitVec.ofNat 32 n) = (r : EReal) := fun n => ⟨_, rfl⟩
  obtain ⟨a, ha⟩ := hs p
  obtain ⟨b, hb⟩ := hs i
  unfold angle
  rw [ha, hb, word_2, word_10000, word_64, Ideal.div_coe (by norm_num), ← EReal.coe_mul, ← EReal.coe_neg, ← EReal.coe_mul, Ideal.pow_coe_coe, ← EReal.coe_mul]
  exact ⟨_, rfl⟩

theorem turn_real (T : Fin 8192) (e : Fin 128) : IsReal (turn T e) := by
  unfold turn; split <;> exact angle_real _ _

theorem cosTab_real (T : Fin 8192) (e : Fin 128) : IsReal (cosTab T e) := by
  obtain ⟨r, hr⟩ := turn_real T e
  unfold cosTab; rw [hr]; exact ⟨_, Ideal.cos_coe r⟩

theorem sinTab_real (T : Fin 8192) (e : Fin 128) : IsReal (sinTab T e) := by
  obtain ⟨r, hr⟩ := turn_real T e
  unfold sinTab; rw [hr]; split
  · exact IsReal.neg ⟨_, Ideal.sin_coe r⟩
  · exact ⟨_, Ideal.sin_coe r⟩

theorem rope_real (x g : Fin 128 → EReal) (hg : ∀ d, IsReal (g d)) (T : Fin 8192) (d : Fin 128) : IsReal (rope x g (cosTab T) (sinTab T) d) :=
  ((nrm_real x g hg d).mul (cosTab_real T d)).add ((nrm_real x g hg _).mul (sinTab_real T d))

/-- A positive real factor may be taken out of a sum, whatever the terms. -/
theorem sum_mul_coe {ι : Type} (s : Finset ι) (f : ι → EReal) (c : ℝ) (hc : 0 ≤ c) : ∑ i ∈ s, f i * c = (∑ i ∈ s, f i) * c := by
  classical
  induction s using Finset.induction_on with
  | empty => simp
  | insert a s ha ih =>
    rw [Finset.sum_insert ha, Finset.sum_insert ha, ih]
    exact (EReal.right_distrib_of_nonneg_of_ne_top (by exact_mod_cast hc) (EReal.coe_ne_top c) _ _).symm

/-- The softmax written with the greatest score subtracted, against the quotient of two sums of powers of two. -/
theorem softmax_eq {n : ℕ} (hn : 0 < n) (v : Fin n → EReal) (s : Fin n → ℝ) (M : ℝ) :
    ∑ k, v k * Ideal.div (Ideal.exp ((s k : EReal) - M)) (∑ j, Ideal.exp ((s j : EReal) - M))
      = Ideal.div (∑ k, v k * ((Real.exp (s k) : ℝ) : EReal)) (∑ k, ((Real.exp (s k) : ℝ) : EReal)) := by
  haveI : Nonempty (Fin n) := ⟨⟨0, hn⟩⟩
  have hE : ∀ k, Ideal.exp ((s k : EReal) - M) = ((Real.exp (s k) * Real.exp (-M) : ℝ) : EReal) := fun k => by
    rw [← EReal.coe_sub, Ideal.exp_coe, sub_eq_add_neg, Real.exp_add]
  have hZ : 0 < ∑ k, Real.exp (s k) := Finset.sum_pos (fun k _ => Real.exp_pos _) Finset.univ_nonempty
  have hc := Real.exp_pos (-M)
  simp only [hE]
  rw [← coe_sum, ← coe_sum, ← Finset.sum_mul, Ideal.div_coe hZ.ne', ← sum_mul_coe _ _ _ (by positivity)]
  refine Finset.sum_congr rfl fun k _ => ?_
  rw [Ideal.div_coe (mul_pos hZ hc).ne', ← EReal.coe_mul, mul_assoc (v k), ← EReal.coe_mul]
  congr 2
  field_simp

/-- With finite gains a score is a real, and the weight that the kernel gives it is its exponential. -/
theorem weights (P : S8192x8192.Idx → EReal) (gq gk : S1x128.Idx → EReal) (hq : ∀ i, IsReal (gq i)) (hk : ∀ i, IsReal (gk i))
    (h : Fin 16) (T k : Fin 8192) : ∃ s : ℝ, score P gq gk h T k = s ∧ wgt P gq gk h T k = ((Real.exp s : ℝ) : EReal) := by
  have ra : ∀ d, IsReal (head P gk (2048 + h.val / 4 * 128) (by omega) k d) := fun d => rope_real _ _ (fun e => hk _) k d
  have rb : ∀ d, IsReal (head P gq (h.val * 128) (by omega) T d) := fun d => rope_real _ _ (fun e => hq _) T d
  choose a ha using ra
  choose b hb using rb
  have h128 : (0 : ℝ) < Real.sqrt 128 := Real.sqrt_pos.2 (by norm_num)
  refine ⟨(∑ d, a d * b d) * (1 / Real.sqrt 128), ?_, ?_⟩
  · unfold score
    rw [word_128, Ideal.sqrt_coe, if_neg (by norm_num), Ideal.div_coe h128.ne']
    simp only [ha, hb, ← EReal.coe_mul, ← coe_sum]
  · unfold wgt
    simp only [ha, hb, scale2, ← EReal.coe_mul, ← coe_sum]
    rw [Ideal.exp2_coe]
    congr 1
    have e : ∑ d, a d * (b d * ((Real.sqrt 128)⁻¹ * (Real.log 2)⁻¹)) = (∑ d, a d * b d) * ((Real.sqrt 128)⁻¹ * (Real.log 2)⁻¹) := by
      rw [Finset.sum_mul]; exact Finset.sum_congr rfl fun d _ => by ring
    have hl : Real.log 2 ≠ 0 := (Real.log_pos (by norm_num)).ne'
    rw [e]
    rw [show Real.rpow 2 _ = (2 : ℝ) ^ ((∑ d, a d * b d) * ((Real.sqrt 128)⁻¹ * (Real.log 2)⁻¹)) from rfl, Real.rpow_def_of_pos (by norm_num)]
    congr 1
    field_simp

/-- The kernel's result and the reference's, entry by entry. -/
theorem result_eq (P : S8192x8192.Idx → EReal) (gq gk : S1x128.Idx → EReal) (hq : ∀ i, IsReal (gq i)) (hk : ∀ i, IsReal (gk i))
    (h : Fin 16) (d : Fin 128) (T : Fin 8192) (hc : h.val * 128 + d.val < 2048) :
    result P gq gk h d T = Cert.ReferenceIdeal.Read.val_main_v153 (F := Ideal) P gq gk (ix2 T ⟨h.val * 128 + d.val, hc⟩) := by
  obtain ⟨M, hM⟩ := top_real P gq gk (fun i => by
    obtain ⟨h', T', k', e⟩ := ref_scores P gq gk i
    obtain ⟨s, hs, _⟩ := weights P gq gk hq hk h' T' k'
    exact ⟨s, e.trans hs⟩) (ix3 ⟨h.val / 4, by omega⟩ ⟨h.val % 4, by omega⟩ T)
  choose s hs hw using weights P gq gk hq hk h T
  rw [ref_value, hM]
  simp only [hs]
  rw [softmax_eq (by decide)]
  unfold result
  simp only [hw]

end Cert.Attn

end
-- ==== Proof.Rows.lean ====
module

public import Idealize.ShloMosaic.PureOps.Ideal.Laws

@[expose] public section

noncomputable section

/-! Functions of one row that several calls share. -/

namespace Cert.Rows

open Idealize.ShloMosaic

/-- A row of 2048 entries divided by its root mean square and multiplied by the gains. -/
def nrm (f g : Fin 2048 → EReal) (k : Fin 2048) : EReal :=
  f k * Ideal.rsqrt (Ideal.div (∑ e : Fin 2048, f e * f e) (Ideal.ofBits .f32 0x45000000#32) + Ideal.ofBits .f32 0x358637BD#32) * g k

end Cert.Rows

end
-- ==== Proof.InprojBlock.lean ====
module

public import proofs.«01_k».proof.Proof.Gen.Kernel2Ideal.Value
public import proofs.«01_k».proof.Proof.Gen.Reference2Ideal.Read
public import proofs.«01_k».proof.Proof.Rows
public import Idealize.ShloMosaic.Lib.Pointwise
public import Idealize.ShloMosaic.Lib.Pipeline.ValueKit

@[expose] public section

set_option maxRecDepth 16384

noncomputable section

/-! The input projection: what a grid point writes, what the array holds, and the reference's product. -/

namespace Cert.Inproj

open Cert.Kernel2Ideal Cert.Kernel2Ideal.Gen Cert.Rows Idealize.ShloMosaic Idealize.ShloMosaic.TcCoe Idealize.SL.Sem

/-- The normalised block that the first point of a row of blocks stores. -/
theorem pay1_apply (X : Vec Ideal S1024x2048 .f32) (g : Vec Ideal S1x2048 .f32) (r : Fin 1024) (k : Fin 2048) :
    k0_pay1 X g (ix2 r k) = nrm (fun e => X (ix2 r e)) (fun e => g (ix2 0 e)) k := by
  pointwise [k0_pay1, nrm]

/-- The product of a normalised block and a block of the weights. -/
theorem pay2_apply (H : Vec Ideal S1024x2048 .bf16) (W : Vec Ideal S2048x1024 .f32) (r n : Fin 1024) :
    k0_pay2 H W (ix2 r n) = ∑ k : Fin 2048, H (ix2 r k) * W (ix2 k n) := by
  pointwise [k0_pay2]

/-- The reference's entry. -/
theorem ref_apply (X : FVec Ideal Cert.Reference2Ideal.S8192x2048 .f32) (g : FVec Ideal Cert.Reference2Ideal.S1x2048 .f32)
    (W : FVec Ideal Cert.Reference2Ideal.S2048x8192 .f32) (t n : Fin 8192) :
    Cert.Reference2Ideal.Read.val_main_v15 (F := Ideal) X g W (ix2 t n) = ∑ k : Fin 2048, nrm (fun e => X (ix2 t e)) (fun e => g (ix2 0 e)) k * W (ix2 k n) := by
  pointwise [Cert.Reference2Ideal.Read.val_main_v15, Cert.Reference2Ideal.Read.val_main_v14, Cert.Reference2Ideal.Read.val_main_v13,
    Cert.Reference2Ideal.Read.val_main_v12, Cert.Reference2Ideal.Read.val_main_v11, Cert.Reference2Ideal.Read.val_main_v10,
    Cert.Reference2Ideal.Read.val_main_v9, Cert.Reference2Ideal.Read.val_main_v8, Cert.Reference2Ideal.Read.val_main_v7,
    Cert.Reference2Ideal.Read.val_main_v6, Cert.Reference2Ideal.Read.val_main_v5, Cert.Reference2Ideal.Read.val_main_v4,
    Cert.Reference2Ideal.Read.val_main_v3, Cert.Reference2Ideal.Read.val_main_v2, Cert.Reference2Ideal.Read.val_main_v1,
    Cert.Reference2Ideal.Read.val_main_v0, Cert.Reference2Ideal.Read.val_main_cst, Cert.Reference2Ideal.Read.val_main_cst_0, Cert.Reference2Ideal.Read.val_main_cst_1, nrm]

section Points
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x1024 .f32) (harg4 : arg4.IsWhole) (arg5 : Memref sig .tc .vmem S1024x1024 .bf16) (harg5 : arg5.IsWhole) (arg6 : Memref sig .tc .vmem S1024x2048 .bf16) (harg6 : arg6.IsWhole)
  (x0 : Vec Ideal S1024x2048 .f32) (x1 : Vec Ideal S1x2048 .f32) (x2 : Vec Ideal S2048x1024 .f32) (xs : Vec Ideal S1024x2048 .bf16)

/-- The first point of a row of blocks leaves the normalised block in the scratch. -/
theorem scratch_first (hc : cond0_0 i) :
    sout0_A_0 c i arg2 harg2 arg3 harg3 arg4 harg4 arg5 harg5 arg6 harg6 hc x0 x1 x2 = k0_pay1 x0 x1 := by
  frame_out

theorem out_first (hc : cond0_0 i) :
    out0_A_3 c i arg2 harg2 arg3 harg3 arg4 harg4 arg5 harg5 arg6 harg6 hc x0 x1 x2 = k0_pay2 (k0_pay1 x0 x1) x2 := by
  frame_out

theorem out_later (hc : ¬ cond0_0 i) :
    out0_B_3 c i arg2 harg2 arg3 harg3 arg4 harg4 arg5 harg5 arg6 harg6 hc x0 x1 x2 xs = k0_pay2 xs x2 := by
  frame_out

end Points

variable (m : (ℓ : Loc nD τ sig) → Buf (Elt Ideal) ℓ)

theorem idx : ∀ t : Fin cfg0.N, win0_0.index t = ![t.val / 8, 0] ∧ win0_1.index t = ![0, 0] ∧ win0_2.index t = ![0, t.val % 8] ∧ win0_3.index t = ![t.val / 8, t.val % 8] :=
  (by decide +kernel : ∀ t : Fin grid0.N, _)

/-- An entry of the rows that a point holds. -/
theorem rows_apply (c : Dev nD) (t : Fin cfg0.N) (r : Fin 1024) (e : Fin 2048) (b : t.val / 8 * 1024 + r.val < 8192) :
    (iblk m c 0 t : Vec Ideal S1024x2048 .f32) (ix2 r e) = m ((c.tc : Thread nD τ).loc main_arg0) (ix2 ⟨t.val / 8 * 1024 + r.val, b⟩ e) := by
  blk_point [iblk, V, idx t]

theorem gains_apply (c : Dev nD) (t : Fin cfg0.N) (e : Fin 2048) :
    (iblk m c 1 t : Vec Ideal S1x2048 .f32) (ix2 0 e) = m ((c.tc : Thread nD τ).loc main_arg1) (ix2 0 e) := by
  blk_point [iblk, V, idx t]

theorem weights_apply (c : Dev nD) (t : Fin cfg0.N) (e : Fin 2048) (n : Fin 1024) (b : t.val % 8 * 1024 + n.val < 8192) :
    (iblk m c 2 t : Vec Ideal S2048x1024 .f32) (ix2 e n) = m ((c.tc : Thread nD τ).loc main_arg2) (ix2 e ⟨t.val % 8 * 1024 + n.val, b⟩) := by
  blk_point [iblk, V, idx t]

/-- The points of one row of blocks see the same rows of the input, so the scratch holds their normalised block at all of them. -/
theorem scratch (c : Dev nD) : ∀ (n : ℕ) (h : n < cfg0.N) (r : Fin 1024) (k : Fin 2048) (b : n / 8 * 1024 + r.val < 8192),
    (outsAt0 m c n h).2 (ix2 r k) = nrm (fun e => m ((c.tc : Thread nD τ).loc main_arg0) (ix2 ⟨n / 8 * 1024 + r.val, b⟩ e)) (fun e => m ((c.tc : Thread nD τ).loc main_arg1) (ix2 0 e)) k := by
  intro n
  induction n with
  | zero =>
    intro h r k b
    rw [outsAt0_A m c ⟨0, h⟩ rfl]
    dsimp only
    rw [scratch_first, pay1_apply]
    congr 1
    · exact funext fun e => rows_apply m c ⟨0, h⟩ r e b
    · exact funext fun e => gains_apply m c ⟨0, h⟩ e
  | succ n ih =>
    intro h r k b
    by_cases h0 : (n + 1) % 8 = 0
    · rw [outsAt0_A m c ⟨n + 1, h⟩ h0]
      dsimp only
      rw [scratch_first, pay1_apply]
      congr 1
      · exact funext fun e => rows_apply m c ⟨n + 1, h⟩ r e b
      · exact funext fun e => gains_apply m c ⟨n + 1, h⟩ e
    · have e8 : (n + 1) / 8 = n / 8 := by omega
      rw [outsAt0_B m c ⟨n + 1, h⟩ h0]
      dsimp only [sout0_B_0, Nat.add_sub_cancel]
      simp only [e8]
      exact ih (Nat.lt_of_succ_lt h) r k (by omega)

/-- What a point writes, entry by entry. -/
theorem point (c : Dev nD) (t : Fin cfg0.N) (r n : Fin 1024) (b : t.val / 8 * 1024 + r.val < 8192) (b' : t.val % 8 * 1024 + n.val < 8192) :
    (outsAt0 m c t.val t.isLt).1 (ix2 r n) = ∑ k : Fin 2048, nrm (fun e => m ((c.tc : Thread nD τ).loc main_arg0) (ix2 ⟨t.val / 8 * 1024 + r.val, b⟩ e))
      (fun e => m ((c.tc : Thread nD τ).loc main_arg1) (ix2 0 e)) k * m ((c.tc : Thread nD τ).loc main_arg2) (ix2 k ⟨t.val % 8 * 1024 + n.val, b'⟩) := by
  by_cases h0 : t.val % 8 = 0
  · have hs := fun k => scratch m c t.val t.isLt r k b
    rw [outsAt0_A m c t h0] at hs ⊢
    dsimp only at hs ⊢
    simp only [scratch_first] at hs
    rw [out_first, pay2_apply]
    exact Finset.sum_congr rfl fun k _ => congrArg₂ (· * ·) (hs k) (weights_apply m c t k n b')
  · have hs := fun k => scratch m c (t.val - 1) (Nat.lt_of_le_of_lt (Nat.sub_le _ _) t.isLt) r k (by omega)
    have e8 : (t.val - 1) / 8 = t.val / 8 := by omega
    simp only [e8] at hs
    rw [outsAt0_B m c t h0]
    dsimp only
    rw [out_later, pay2_apply]
    exact Finset.sum_congr rfl fun k _ => congrArg₂ (· * ·) (hs k) (weights_apply m c t k n b')

/-- The kernel's array is the reference's. -/
theorem final (c : Dev nD) : (dats m 0 c).arrAt 3 cfg0.N =
    Cert.Reference2Ideal.Read.val_main_v15 (F := Ideal) (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  blk_simp
  rw [after0_3]
  idx_vars y
  have ht : t.val < 64 := lt_of_lt_of_eq t.isLt N_0
  rw [point m c t y0 y1 (by omega) (by omega)]
  refine (ref_apply _ _ _ _ _).symm.trans (congrArg _ ?_)
  blk_ext [idx t]

end Cert.Inproj

end
-- ==== Proof.MergeBlock.lean ====
module

public import proofs.«01_k».proof.Proof.Gen.Kernel3Ideal.Value
public import proofs.«01_k».proof.Proof.Gen.Reference3Ideal.Read
public import Idealize.ShloMosaic.Lib.Pointwise
public import Idealize.ShloMosaic.Lib.Pipeline.ValueKit

@[expose] public section

set_option maxRecDepth 16384

noncomputable section

/-! The merge of the two branches: what a grid point writes, what the array holds, and the reference's sum. -/

namespace Cert.Merge

open Cert.Kernel3Ideal Cert.Kernel3Ideal.Gen Idealize.ShloMosaic Idealize.ShloMosaic.TcCoe Idealize.SL.Sem

theorem one_word : Ideal.ofBits .f32 0x3F800000#32 = 1 := by
  simp [Ideal.ofBits, Ideal.ieee, -EReal.coe_mul]; norm_num

/-- The merged entry from a row of the attention, a row of the Fourier branch, a column of each weight and the two gates. -/
def merged (a wa : Fin 2048 → EReal) (f wf : Fin 1024 → EReal) (ga gf : EReal) : EReal :=
  Ideal.logistic ga * (∑ k : Fin 2048, a k * wa k) + Ideal.logistic gf * ∑ k : Fin 1024, f k * wf k

theorem pay_apply (A : Vec Ideal S1024x2048 .bf16) (WA : Vec Ideal S2048x1024 .bf16) (X : Vec Ideal S1024x1024 .f32) (WF GA GF : Vec Ideal S1024x1024 .bf16) (r n : Fin 1024) :
    k0_pay1 A WA X WF GA GF (ix2 r n) = merged (fun k => A (ix2 r k)) (fun k => WA (ix2 k n)) (fun k => X (ix2 r k)) (fun k => WF (ix2 k n)) (GA (ix2 r n)) (GF (ix2 r n)) := by
  pointwise [k0_pay1, merged]

/-- The reference's logistic of an entry of the gates' columns. -/
theorem gate_apply (P : FVec Ideal Cert.Reference3Ideal.S8192x8192 .bf16) (t : Fin 8192) (n : Fin 4096) :
    Cert.Reference3Ideal.Read.val_main_v7 (F := Ideal) P (ix2 t n) = Ideal.logistic (P (ix2 t ⟨4096 + n.val, by omega⟩)) := by
  rw [Cert.Reference3Ideal.Read.val_main_v7_apply, Cert.Reference3Ideal.Read.val_main_v6_apply, Cert.Reference3Ideal.Read.val_main_v5_apply, Cert.Reference3Ideal.Read.val_main_v4_apply, Cert.Reference3Ideal.Read.val_main_v3_apply, Cert.Reference3Ideal.Read.val_main_v2_apply, Cert.Reference3Ideal.Read.val_main_v1_apply, Cert.Reference3Ideal.Read.val_main_v0_apply]
  have e : Cert.Reference3Ideal.Read.idx_main_v0 (ix2 t n) = ix2 t ⟨4096 + n.val, by omega⟩ := by
    funext a
    match a with
    | 0 => exact Fin.ext (by simp)
    | 1 => exact Fin.ext (by simp)
  rw [e]
  show Ideal.div (Ideal.ofBits .f32 0x3F800000#32) (Ideal.ofBits .f32 0x3F800000#32 + Ideal.exp (-(P (ix2 t ⟨4096 + n.val, by omega⟩)))) = _
  rw [one_word, Ideal.logistic]

theorem gate_attn (P : FVec Ideal Cert.Reference3Ideal.S8192x8192 .bf16) (t : Fin 8192) (n : Fin 2048) :
    Cert.Reference3Ideal.Read.val_main_v8 (F := Ideal) P (ix2 t n) = Ideal.logistic (P (ix2 t ⟨4096 + n.val, by omega⟩)) := by
  rw [Cert.Reference3Ideal.Read.val_main_v8_apply]
  refine Eq.trans (congrArg _ ?_) (gate_apply P t ⟨n.val, by omega⟩)
  funext a
  match a with
  | 0 => exact Fin.ext (by simp)
  | 1 => exact Fin.ext (by simp)

theorem gate_four (P : FVec Ideal Cert.Reference3Ideal.S8192x8192 .bf16) (t : Fin 8192) (n : Fin 2048) :
    Cert.Reference3Ideal.Read.val_main_v9 (F := Ideal) P (ix2 t n) = Ideal.logistic (P (ix2 t ⟨6144 + n.val, by omega⟩)) := by
  rw [Cert.Reference3Ideal.Read.val_main_v9_apply]
  refine Eq.trans (congrArg _ ?_) ((gate_apply P t ⟨2048 + n.val, by omega⟩).trans ?_)
  · funext a
    match a with
    | 0 => exact Fin.ext (by simp)
    | 1 => exact Fin.ext (by simp)
  · exact congrArg (fun k : Fin 8192 => Ideal.logistic (P (ix2 t k))) (Fin.ext (by dsimp only; omega))

/-- The reference's entry. -/
theorem ref_apply (A : FVec Ideal Cert.Reference3Ideal.S8192x2048 .bf16) (X : FVec Ideal Cert.Reference3Ideal.S8192x1024 .f32) (P : FVec Ideal Cert.Reference3Ideal.S8192x8192 .bf16)
    (WA : FVec Ideal Cert.Reference3Ideal.S2048x2048 .bf16) (WF : FVec Ideal Cert.Reference3Ideal.S1024x2048 .bf16) (t : Fin 8192) (n : Fin 2048) :
    Cert.Reference3Ideal.Read.val_main_v18 (F := Ideal) A X P WA WF (ix2 t n) =
      merged (fun k => A (ix2 t k)) (fun k => WA (ix2 k n)) (fun k => X (ix2 t k)) (fun k => WF (ix2 k n)) (P (ix2 t ⟨4096 + n.val, by omega⟩)) (P (ix2 t ⟨6144 + n.val, by omega⟩)) := by
  unfold merged
  rw [← gate_attn P t n, ← gate_four P t n]
  unfold Cert.Reference3Ideal.Read.val_main_v18 Cert.Reference3Ideal.Read.val_main_v17 Cert.Reference3Ideal.Read.val_main_v16 Cert.Reference3Ideal.Read.val_main_v15
  generalize Cert.Reference3Ideal.Read.val_main_v8 (F := Ideal) P = ga
  generalize Cert.Reference3Ideal.Read.val_main_v9 (F := Ideal) P = gf
  pointwise [Cert.Reference3Ideal.Read.val_main_v14, Cert.Reference3Ideal.Read.val_main_v13, Cert.Reference3Ideal.Read.val_main_v12, Cert.Reference3Ideal.Read.val_main_v11, Cert.Reference3Ideal.Read.val_main_v10]

variable (m : (ℓ : Loc nD τ sig) → Buf (Elt Ideal) ℓ)

theorem idx : ∀ t : Fin cfg0.N, win0_0.index t = ![t.val / 2, 0] ∧ win0_1.index t = ![t.val / 2, 0] ∧ win0_2.index t = ![t.val / 2, 4 + t.val % 2]
    ∧ win0_3.index t = ![t.val / 2, 6 + t.val % 2] ∧ win0_4.index t = ![0, t.val % 2] ∧ win0_5.index t = ![0, t.val % 2] ∧ win0_6.index t = ![t.val / 2, t.val % 2] :=
  (by decide +kernel : ∀ t : Fin grid0.N, _)

/-- What a point writes. -/
theorem block (A : Vec Ideal S1024x2048 .bf16) (X : Vec Ideal S1024x1024 .f32) (GA GF : Vec Ideal S1024x1024 .bf16) (WA : Vec Ideal S2048x1024 .bf16) (WF : Vec Ideal S1024x1024 .bf16) :
    out0_6 A X GA GF WA WF = k0_pay1 A WA X WF GA GF := by
  frame_out

/-- The kernel's array is the reference's. -/
theorem final (c : Dev nD) : (dats m 0 c).arrAt 6 cfg0.N =
    Cert.Reference3Ideal.Read.val_main_v18 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  refine (dats m 0 c).arrAt_eq_of_covers 6 _ (by decide +kernel) fun t hf y => ?_
  blk_simp
  rw [after0_6, block]
  idx_vars y
  have ht : t.val < 16 := lt_of_lt_of_eq t.isLt N_0
  have hr : t.val / 2 * 1024 + y0.val < 8192 := by omega
  have hn : t.val % 2 * 1024 + y1.val < 2048 := by omega
  rw [pay_apply]
  have e := ref_apply (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) ⟨t.val / 2 * 1024 + y0.val, hr⟩ ⟨t.val % 2 * 1024 + y1.val, hn⟩
  refine Eq.trans ?_ (e.symm.trans (congrArg _ ?_))
  · congr 1
    · funext k; blk_point [iblk, V, idx t]
    · funext k; blk_point [iblk, V, idx t]
    · funext k; blk_point [iblk, V, idx t]
    · funext k; blk_point [iblk, V, idx t]
    · blk_point [iblk, V, idx t]
    · blk_point [iblk, V, idx t]
  · blk_ext [idx t]

end Cert.Merge

end
-- ==== Proof.OutprojBlock.lean ====
module

public import proofs.«01_k».proof.Proof.Gen.Kernel4Ideal.Value
public import proofs.«01_k».proof.Proof.Gen.Reference4Ideal.Read
public import proofs.«01_k».proof.Proof.Rows
public import Idealize.ShloMosaic.Lib.Pointwise
public import Idealize.ShloMosaic.Lib.Pipeline.ValueKit

@[expose] public section

set_option maxRecDepth 16384

noncomputable section

/-! The output projection and the router: what a grid point writes, what the arrays hold, and the reference's values. -/

namespace Cert.Outproj

open Cert.Kernel4Ideal Cert.Kernel4Ideal.Gen Cert.Rows Idealize.ShloMosaic Idealize.ShloMosaic.TcCoe Idealize.SL.Sem

variable (X : Vec Ideal S512x2048 .f32) (M : Vec Ideal S512x2048 .bf16) (W : Vec Ideal S2048x2048 .bf16) (g : Vec Ideal S1x2048 .f32) (R : Vec Ideal S16x2048 .bf16)

/-- An entry of the residual sum: the input's and the product of a merged row with a column of the weights. -/
def residual (x : EReal) (a w : Fin 2048 → EReal) : EReal := x + ∑ k : Fin 2048, a k * w k

theorem pay1_apply (r : Fin 512) (n : Fin 2048) :
    k0_pay1 X M W (ix2 r n) = residual (X (ix2 r n)) (fun k => M (ix2 r k)) (fun k => W (ix2 k n)) := by
  pointwise [k0_pay1, residual]

theorem pay2_apply (r : Fin 512) (n : Fin 2048) :
    k0_pay2 X M W g (ix2 r n) = nrm (fun e => k0_pay1 X M W (ix2 r e)) (fun e => g (ix2 0 e)) n := by
  unfold k0_pay2
  generalize k0_pay1 X M W = Y
  pointwise [nrm]

/-- The largest of sixteen entries, from minus infinity. -/
def top (l : Fin 16 → EReal) : EReal := Finset.univ.fold max (Ideal.ofBits .f32 0xFF800000#32) l

/-- The softmax of sixteen entries. -/
def soft (l : Fin 16 → EReal) (e : Fin 16) : EReal := Ideal.div (Ideal.exp (l e - top l)) (∑ x : Fin 16, Ideal.exp (l x - top l))

theorem minus_infinity : Ideal.ofBits .f32 0xFF800000#32 = ⊥ := by simp [Ideal.ofBits, Ideal.ieee]

theorem pay3_apply (e : Fin 16) (r : Fin 512) :
    k0_pay3 X M W g R (ix2 e r) = soft (fun x => ∑ k : Fin 2048, R (ix2 x k) * k0_pay2 X M W g (ix2 r k)) e := by
  unfold k0_pay3 soft top
  generalize k0_pay2 X M W g = Y
  pointwise

section Reference
variable (X : FVec Ideal Cert.Reference4Ideal.S8192x2048 .f32) (M : FVec Ideal Cert.Reference4Ideal.S8192x2048 .bf16) (W : FVec Ideal Cert.Reference4Ideal.S2048x2048 .bf16)
  (g : FVec Ideal Cert.Reference4Ideal.S1x2048 .f32) (R : FVec Ideal Cert.Reference4Ideal.S16x2048 .bf16)

theorem ref1_apply (t : Fin 8192) (n : Fin 2048) :
    Cert.Reference4Ideal.Read.val_main_v3 (F := Ideal) M X W (ix2 t n) = residual (X (ix2 t n)) (fun k => M (ix2 t k)) (fun k => W (ix2 k n)) := by
  pointwise [Cert.Reference4Ideal.Read.val_main_v3, Cert.Reference4Ideal.Read.val_main_v2, Cert.Reference4Ideal.Read.val_main_v1, Cert.Reference4Ideal.Read.val_main_v0, residual]

theorem ref2_apply (t : Fin 8192) (n : Fin 2048) :
    Cert.Reference4Ideal.Read.val_main_v17 (F := Ideal) M X W g (ix2 t n) =
      nrm (fun e => Cert.Reference4Ideal.Read.val_main_v3 (F := Ideal) M X W (ix2 t e)) (fun e => g (ix2 0 e)) n := by
  unfold Cert.Reference4Ideal.Read.val_main_v17 Cert.Reference4Ideal.Read.val_main_v13 Cert.Reference4Ideal.Read.val_main_v12 Cert.Reference4Ideal.Read.val_main_v11 Cert.Reference4Ideal.Read.val_main_v10 Cert.Reference4Ideal.Read.val_main_v8 Cert.Reference4Ideal.Read.val_main_v6 Cert.Reference4Ideal.Read.val_main_v5 Cert.Reference4Ideal.Read.val_main_v4
  generalize Cert.Reference4Ideal.Read.val_main_v3 (F := Ideal) M X W = Y
  pointwise [Cert.Reference4Ideal.Read.val_main_v16, Cert.Reference4Ideal.Read.val_main_v15, Cert.Reference4Ideal.Read.val_main_v14, Cert.Reference4Ideal.Read.val_main_v9, Cert.Reference4Ideal.Read.val_main_v7, Cert.Reference4Ideal.Read.val_main_cst, Cert.Reference4Ideal.Read.val_main_cst_0, Cert.Reference4Ideal.Read.val_main_cst_1, nrm]

theorem ref_logit (t : Fin 8192) (e : Fin 16) :
    Cert.Reference4Ideal.Read.val_main_v20 (F := Ideal) M X W g R (ix2 t e) =
      ∑ k : Fin 2048, R (ix2 e k) * Cert.Reference4Ideal.Read.val_main_v17 (F := Ideal) M X W g (ix2 t k) := by
  unfold Cert.Reference4Ideal.Read.val_main_v20
  generalize Cert.Reference4Ideal.Read.val_main_v17 (F := Ideal) M X W g = Y
  pointwise [Cert.Reference4Ideal.Read.val_main_v19, Cert.Reference4Ideal.Read.val_main_v18]
  exact Finset.sum_congr rfl fun k _ => mul_comm _ _

theorem ref3_apply (t : Fin 8192) (e : Fin 16) :
    Cert.Reference4Ideal.Read.val_main_v32 (F := Ideal) M X W g R (ix2 e t) =
      soft (fun x => ∑ k : Fin 2048, R (ix2 x k) * Cert.Reference4Ideal.Read.val_main_v17 (F := Ideal) M X W g (ix2 t k)) e := by
  simp only [← ref_logit]
  unfold Cert.Reference4Ideal.Read.val_main_v32 Cert.Reference4Ideal.Read.val_main_v31 Cert.Reference4Ideal.Read.val_main_v30 Cert.Reference4Ideal.Read.val_main_v29 Cert.Reference4Ideal.Read.val_main_v28 Cert.Reference4Ideal.Read.val_main_v27 Cert.Reference4Ideal.Read.val_main_v26 Cert.Reference4Ideal.Read.val_main_v25 Cert.Reference4Ideal.Read.val_main_v24 Cert.Reference4Ideal.Read.val_main_v23 Cert.Reference4Ideal.Read.val_main_v21
  generalize Cert.Reference4Ideal.Read.val_main_v20 (F := Ideal) M X W g R = Y
  pointwise [Cert.Reference4Ideal.Read.val_main_v22, Cert.Reference4Ideal.Read.val_main_cst_2, Cert.Reference4Ideal.Read.val_main_cst_3, Cert.Reference4Ideal.Read.val_main_cst_4, soft, top]
  rw [minus_infinity]
  simp only [bot_le, max_eq_right]

end Reference

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] ∧ win0_7.index t = ![0, t.val] :=
  (by decide +kernel : ∀ t : Fin grid0.N, _)

theorem block5 (x0 : Vec Ideal S512x2048 .bf16) (x1 : Vec Ideal S512x2048 .f32) (x2 : Vec Ideal S2048x2048 .bf16) (x3 : Vec Ideal S1x2048 .f32) (x4 : Vec Ideal S16x2048 .bf16) :
    out0_5 x0 x1 x2 x3 x4 = k0_pay1 x1 x0 x2 := by
  frame_out

theorem block6 (x0 : Vec Ideal S512x2048 .bf16) (x1 : Vec Ideal S512x2048 .f32) (x2 : Vec Ideal S2048x2048 .bf16) (x3 : Vec Ideal S1x2048 .f32) (x4 : Vec Ideal S16x2048 .bf16) :
    out0_6 x0 x1 x2 x3 x4 = k0_pay2 x1 x0 x2 x3 := by
  frame_out

theorem block7 (x0 : Vec Ideal S512x2048 .bf16) (x1 : Vec Ideal S512x2048 .f32) (x2 : Vec Ideal S2048x2048 .bf16) (x3 : Vec Ideal S1x2048 .f32) (x4 : Vec Ideal S16x2048 .bf16) :
    out0_7 x0 x1 x2 x3 x4 = k0_pay3 x1 x0 x2 x3 x4 := by
  frame_out

/-- A point's rows after the projection and the residual. -/
theorem point5 (c : Dev nD) (t : Fin cfg0.N) (r : Fin 512) (n : Fin 2048) (b : t.val * 512 + r.val < 8192) :
    k0_pay1 (iblk m c 1 t : Vec Ideal S512x2048 .f32) (iblk m c 0 t : Vec Ideal S512x2048 .bf16) (iblk m c 2 t : Vec Ideal S2048x2048 .bf16) (ix2 r n) =
      Cert.Reference4Ideal.Read.val_main_v3 (F := Ideal) (m ((c.tc : Thread nD τ).loc main_arg0)) (m ((c.tc : Thread nD τ).loc main_arg1)) (m ((c.tc : Thread nD τ).loc main_arg2)) (ix2 ⟨t.val * 512 + r.val, b⟩ n) := by
  rw [pay1_apply, ref1_apply]
  congr 1
  · blk_point [iblk, V, idx t]
  · funext k; blk_point [iblk, V, idx t]
  · funext k; blk_point [iblk, V, idx t]

/-- The same rows normalised. -/
theorem point6 (c : Dev nD) (t : Fin cfg0.N) (r : Fin 512) (n : Fin 2048) (b : t.val * 512 + r.val < 8192) :
    k0_pay2 (iblk m c 1 t : Vec Ideal S512x2048 .f32) (iblk m c 0 t : Vec Ideal S512x2048 .bf16) (iblk m c 2 t : Vec Ideal S2048x2048 .bf16) (iblk m c 3 t : Vec Ideal S1x2048 .f32) (ix2 r n) =
      Cert.Reference4Ideal.Read.val_main_v17 (F := Ideal) (m ((c.tc : Thread nD τ).loc main_arg0)) (m ((c.tc : Thread nD τ).loc main_arg1)) (m ((c.tc : Thread nD τ).loc main_arg2)) (m ((c.tc : Thread nD τ).loc main_arg3)) (ix2 ⟨t.val * 512 + r.val, b⟩ n) := by
  rw [pay2_apply, ref2_apply]
  congr 1
  · exact funext fun e => point5 m c t r e b
  · funext k; blk_point [iblk, V, idx t]

/-- The affinities of the same rows. -/
theorem point7 (c : Dev nD) (t : Fin cfg0.N) (r : Fin 512) (e : Fin 16) (b : t.val * 512 + r.val < 8192) :
    k0_pay3 (iblk m c 1 t : Vec Ideal S512x2048 .f32) (iblk m c 0 t : Vec Ideal S512x2048 .bf16) (iblk m c 2 t : Vec Ideal S2048x2048 .bf16) (iblk m c 3 t : Vec Ideal S1x2048 .f32)
        (iblk m c 4 t : Vec Ideal S16x2048 .bf16) (ix2 e r) =
      Cert.Reference4Ideal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (ix2 e ⟨t.val * 512 + r.val, b⟩) := by
  rw [pay3_apply, ref3_apply]
  refine congrArg (fun l => soft l e) (funext fun x => Finset.sum_congr rfl fun k _ => congrArg₂ (· * ·) ?_ (point6 m c t r k b))
  blk_point [iblk, V, idx t]

theorem final5 (c : Dev nD) : (dats m 0 c).arrAt 5 cfg0.N = Cert.Reference4Ideal.Read.val_main_v3 (F := Ideal) (m ((c.tc : Thread nD τ).loc main_arg0)) (m ((c.tc : Thread nD τ).loc main_arg1)) (m ((c.tc : Thread nD τ).loc main_arg2)) := by
  refine (dats m 0 c).arrAt_eq_of_covers 5 _ (by decide +kernel) fun t hf y => ?_
  blk_simp
  rw [after0_5, block5]
  idx_vars y
  have ht : t.val < 16 := lt_of_lt_of_eq t.isLt N_0
  refine (point5 m c t y0 y1 (by omega)).trans (congrArg _ ?_)
  blk_ext [idx t]

theorem final6 (c : Dev nD) : (dats m 0 c).arrAt 6 cfg0.N = Cert.Reference4Ideal.Read.val_main_v17 (F := Ideal) (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t hf y => ?_
  blk_simp
  rw [after0_6, block6]
  idx_vars y
  have ht : t.val < 16 := lt_of_lt_of_eq t.isLt N_0
  refine (point6 m c t y0 y1 (by omega)).trans (congrArg _ ?_)
  blk_ext [idx t]

theorem final7 (c : Dev nD) : (dats m 0 c).arrAt 7 cfg0.N = Cert.Reference4Ideal.Read.val_main_v32 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  blk_simp
  rw [after0_7, block7]
  idx_vars y
  have ht : t.val < 16 := lt_of_lt_of_eq t.isLt N_0
  refine (point7 m c t y1 y0 (by omega)).trans (congrArg _ ?_)
  blk_ext [idx t]

end Cert.Outproj

end
-- ==== Proof.FourierBlock.lean ====
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit

@[expose] public section

set_option maxRecDepth 16384

noncomputable section

/-! The Fourier sums over the channels of a group: what a grid point writes, what the arrays hold, and the reference's values. -/

namespace Cert.Fourier

open Cert.Kernel5Ideal Cert.Kernel5Ideal.Gen Idealize.ShloMosaic Idealize.ShloMosaic.TcCoe Idealize.SL.Sem

/-! The four groups' stored values are one chain of operations, cut differently from group to group. -/

section Same
variable (C : Vec Ideal S256x512 .bf16) (U : Vec Ideal S512x256 .bf16)
theorem same_re1 : k0_pay7 C U = k0_pay4 C U := rfl
theorem same_re2 : k0_pay10 C U = k0_pay4 C U := rfl
theorem same_re3 : k0_pay13 C U = k0_pay4 C U := rfl
theorem same_im1 : k0_pay8 C U = k0_pay5 C U := rfl
theorem same_im2 : k0_pay11 C U = k0_pay5 C U := rfl
theorem same_im3 : k0_pay1 (k0_pay12 C U) = k0_pay5 C U := rfl

theorem pay4_apply (t : Fin 512) (d : Fin 256) : k0_pay4 C U (ix2 t d) = ∑ k : Fin 256, U (ix2 t k) * C (ix2 k ⟨d.val, by omega⟩) := by
  pointwise [k0_pay4, k0_pay3, k0_pay2]

theorem pay5_apply (t : Fin 512) (d : Fin 256) : k0_pay5 C U (ix2 t d) = ∑ k : Fin 256, U (ix2 t k) * C (ix2 k ⟨256 + d.val, by omega⟩) := by
  pointwise [k0_pay5, k0_pay3, k0_pay2]
end Same

theorem piece_re (C : Vec Ideal S256x512 .bf16) (U : Vec Ideal S512x256 .bf16) (x : S512x256.Idx) (t : Fin 512) (d : Fin 256) (f g : Fin 256 → EReal)
    (ht : t.val = (x 0).val) (hd : d.val = (x 1).val) (hf : ∀ k, U (ix2 t k) = f k) (hg : ∀ k, C (ix2 k ⟨d.val, by omega⟩) = g k) :
    k0_pay4 C U x = ∑ k : Fin 256, f k * g k := by
  idx_vars x
  obtain rfl : t = x0 := Fin.ext ht
  obtain rfl : d = x1 := Fin.ext hd
  exact (pay4_apply C U t d).trans (Finset.sum_congr rfl fun k _ => congrArg₂ (· * ·) (hf k) (hg k))

theorem piece_im (C : Vec Ideal S256x512 .bf16) (U : Vec Ideal S512x256 .bf16) (x : S512x256.Idx) (t : Fin 512) (d : Fin 256) (f g : Fin 256 → EReal)
    (ht : t.val = (x 0).val) (hd : d.val = (x 1).val) (hf : ∀ k, U (ix2 t k) = f k) (hg : ∀ k, C (ix2 k ⟨256 + d.val, by omega⟩) = g k) :
    k0_pay5 C U x = ∑ k : Fin 256, f k * g k := by
  idx_vars x
  obtain rfl : t = x0 := Fin.ext ht
  obtain rfl : d = x1 := Fin.ext hd
  exact (pay5_apply C U t d).trans (Finset.sum_congr rfl fun k _ => congrArg₂ (· * ·) (hf k) (hg k))

theorem out_re (b0 : Vec Ideal S512x1024 .bf16) (b1 : Vec Ideal S256x512 .bf16) (G : Fin 4) (d : Fin 256) (t : Fin 512) :
    out0_2 b0 b1 (ix2 t ⟨G.val * 256 + d.val, by omega⟩) = ∑ k : Fin 256, b0 (ix2 t ⟨G.val * 256 + k.val, by omega⟩) * b1 (ix2 k ⟨d.val, by omega⟩) := by
  canon_tiles x h
  all_goals
    try simp only [same_re1, same_re2, same_re3]
    have e1 : G.val * 256 + d.val = _ := h1
    refine piece_re _ _ x t d _ _ h0 (by omega) (fun k => ?_) (fun k => ?_)
  all_goals first
    | (pointwise; done)
    | (pointwise; exact congrArg (fun m : Fin 1024 => b0 (ix2 t m)) (Fin.ext (by dsimp only; omega)))

theorem out_im (b0 : Vec Ideal S512x1024 .bf16) (b1 : Vec Ideal S256x512 .bf16) (G : Fin 4) (d : Fin 256) (t : Fin 512) :
    out0_3 b0 b1 (ix2 t ⟨G.val * 256 + d.val, by omega⟩) = ∑ k : Fin 256, b0 (ix2 t ⟨G.val * 256 + k.val, by omega⟩) * b1 (ix2 k ⟨256 + d.val, by omega⟩) := by
  canon_tiles x h
  all_goals
    try simp only [same_im1, same_im2, same_im3]
    have e1 : G.val * 256 + d.val = _ := h1
    refine piece_im _ _ x t d _ _ h0 (by omega) (fun k => ?_) (fun k => ?_)
  all_goals first
    | (pointwise; done)
    | (pointwise; exact congrArg (fun m : Fin 1024 => b0 (ix2 t m)) (Fin.ext (by dsimp only; omega)))

/-! The host's table: cosines in its first 256 columns, sines in the rest. -/

section Table
variable (σ : Valuation τ sig (Elt Ideal))

theorem exponents : StableHlo.after (hostOps0_1 (F := Ideal)) (StableHlo.after (hostOps0 (F := Ideal)) σ) (Proc.devRef .tc main_v7) = Cert.Reference5Ideal.Read.val_main_v9 (F := Ideal) := by
  rw [← StableHlo.after_append]
  simp only [hostOps0, hostOps0_1, List.cons_append, List.nil_append, StableHlo.TRef.binary, StableHlo.TRef.nullary, StableHlo.TRef.ternary, StableHlo.TRef.unary, StableHlo.TRef.toBuf, StableHlo.TRef.ofBuf, cast_eq]
  after_results
  rfl

theorem table_re (k d : Fin 256) : StableHlo.after (List.flatten [hostOps0 (F := Ideal), hostOps0_1, hostOps0_2]) σ (Proc.devRef .tc main_v14) (ix2 k ⟨d.val, by omega⟩)
    = Cert.Reference5Ideal.Read.val_main_v13 (F := Ideal) (ix2 k d) := by
  have h := exponents σ
  have e : StableHlo.after (List.flatten [hostOps0 (F := Ideal), hostOps0_1, hostOps0_2]) σ = StableHlo.after (hostOps0_2 (F := Ideal)) (StableHlo.after (hostOps0_1 (F := Ideal)) (StableHlo.after (hostOps0 (F := Ideal)) σ)) := rfl
  rw [e]
  generalize StableHlo.after (hostOps0_1 (F := Ideal)) (StableHlo.after (hostOps0 (F := Ideal)) σ) = σ' at h ⊢
  simp only [hostOps0_2]
  after_results
  rw [h]
  unfold Cert.Reference5Ideal.Read.val_main_v13 Cert.Reference5Ideal.Read.val_main_v12 Cert.Reference5Ideal.Read.val_main_v11 Cert.Reference5Ideal.Read.val_main_v10 Cert.Reference5Ideal.Read.val_main_cst
  generalize Cert.Reference5Ideal.Read.val_main_v9 (F := Ideal) = E
  pointwise
  exact congrArg Ideal.cos (mul_comm _ _)

theorem table_im (k d : Fin 256) : StableHlo.after (List.flatten [hostOps0 (F := Ideal), hostOps0_1, hostOps0_2]) σ (Proc.devRef .tc main_v14) (ix2 k ⟨256 + d.val, by omega⟩)
    = Cert.Reference5Ideal.Read.val_main_v15 (F := Ideal) (ix2 k d) := by
  have h := exponents σ
  have e : StableHlo.after (List.flatten [hostOps0 (F := Ideal), hostOps0_1, hostOps0_2]) σ = StableHlo.after (hostOps0_2 (F := Ideal)) (StableHlo.after (hostOps0_1 (F := Ideal)) (StableHlo.after (hostOps0 (F := Ideal)) σ)) := rfl
  rw [e]
  generalize StableHlo.after (hostOps0_1 (F := Ideal)) (StableHlo.after (hostOps0 (F := Ideal)) σ) = σ' at h ⊢
  simp only [hostOps0_2]
  after_results
  rw [h]
  unfold Cert.Reference5Ideal.Read.val_main_v15 Cert.Reference5Ideal.Read.val_main_v12 Cert.Reference5Ideal.Read.val_main_v11 Cert.Reference5Ideal.Read.val_main_v10 Cert.Reference5Ideal.Read.val_main_cst
  generalize Cert.Reference5Ideal.Read.val_main_v9 (F := Ideal) = E
  pointwise
  exact congrArg Ideal.sin (mul_comm _ _)

end Table

section Reference
variable (P : Vec Ideal S8192x8192 .bf16)

theorem ref_entry (T : Fin 8192) (G : Fin 4) (k : Fin 256) : Cert.Reference5Ideal.Read.val_main_v2 (F := Ideal) P (ix3 T G k)
    = P (ix2 T ⟨3072 + (G.val * 256 + k.val), by omega⟩) := by
  rw [Cert.Reference5Ideal.Read.val_main_v2_apply, Cert.Reference5Ideal.Read.val_main_v1_apply, Cert.Reference5Ideal.Read.val_main_v0_apply]
  refine congrArg P (funext fun a => Fin.ext ?_)
  match a with
  | ⟨0, _⟩ => show ((T.val * 4 + G.val) * 256 + k.val) / 1024 = T.val; omega
  | ⟨1, _⟩ => show 3072 + ((T.val * 4 + G.val) * 256 + k.val) % 1024 = 3072 + (G.val * 256 + k.val); omega

theorem ref_re (T : Fin 8192) (G : Fin 4) (d : Fin 256) : Cert.Reference5Ideal.Read.val_main_v17 (F := Ideal) P (ix2 T ⟨G.val * 256 + d.val, by omega⟩)
    = ∑ k : Fin 256, P (ix2 T ⟨3072 + (G.val * 256 + k.val), by omega⟩) * Cert.Reference5Ideal.Read.val_main_v13 (F := Ideal) (ix2 k d) := by
  have hi : Cert.Reference5Ideal.Read.idx_main_v17 (ix2 T ⟨G.val * 256 + d.val, by omega⟩) = ix3 T G d := funext fun a => Fin.ext (by
    match a with
    | ⟨0, _⟩ => show (T.val * 1024 + (G.val * 256 + d.val)) / 1024 = T.val; omega
    | ⟨1, _⟩ => show (T.val * 1024 + (G.val * 256 + d.val)) / 256 % 4 = G.val; omega
    | ⟨2, _⟩ => show (T.val * 1024 + (G.val * 256 + d.val)) % 256 = d.val; omega)
  rw [Cert.Reference5Ideal.Read.val_main_v17_apply, hi, Cert.Reference5Ideal.Read.val_main_v14_apply]
  refine Finset.sum_congr rfl fun k _ => congrArg₂ (· * ·) (Eq.trans (congrArg _ (funext fun a => ?_)) (ref_entry P T G k)) (congrArg _ (funext fun a => ?_))
  · match a with
    | ⟨0, _⟩ => rfl
    | ⟨1, _⟩ => rfl
    | ⟨2, _⟩ => rfl
  · match a with
    | ⟨0, _⟩ => rfl
    | ⟨1, _⟩ => rfl

theorem ref_im (T : Fin 8192) (G : Fin 4) (d : Fin 256) : Cert.Reference5Ideal.Read.val_main_v18 (F := Ideal) P (ix2 T ⟨G.val * 256 + d.val, by omega⟩)
    = ∑ k : Fin 256, P (ix2 T ⟨3072 + (G.val * 256 + k.val), by omega⟩) * Cert.Reference5Ideal.Read.val_main_v15 (F := Ideal) (ix2 k d) := by
  have hi : Cert.Reference5Ideal.Read.idx_main_v18 (ix2 T ⟨G.val * 256 + d.val, by omega⟩) = ix3 T G d := funext fun a => Fin.ext (by
    match a with
    | ⟨0, _⟩ => show (T.val * 1024 + (G.val * 256 + d.val)) / 1024 = T.val; omega
    | ⟨1, _⟩ => show (T.val * 1024 + (G.val * 256 + d.val)) / 256 % 4 = G.val; omega
    | ⟨2, _⟩ => show (T.val * 1024 + (G.val * 256 + d.val)) % 256 = d.val; omega)
  rw [Cert.Reference5Ideal.Read.val_main_v18_apply, hi, Cert.Reference5Ideal.Read.val_main_v16_apply]
  refine Finset.sum_congr rfl fun k _ => congrArg₂ (· * ·) (Eq.trans (congrArg _ (funext fun a => ?_)) (ref_entry P T G k)) (congrArg _ (funext fun a => ?_))
  · match a with
    | ⟨0, _⟩ => rfl
    | ⟨1, _⟩ => rfl
    | ⟨2, _⟩ => rfl
  · match a with
    | ⟨0, _⟩ => rfl
    | ⟨1, _⟩ => rfl

end Reference

variable (m : (ℓ : Loc nD τ sig) → Buf (Elt Ideal) ℓ)

theorem idx : ∀ t : Fin cfg0.N, win0_0.index t = ![t.val, 3] ∧ win0_1.index t = ![0, 0] ∧ win0_2.index t = ![t.val, 0] ∧ win0_3.index t = ![t.val, 0] :=
  (by decide +kernel : ∀ t : Fin grid0.N, _)

theorem rows (c : Dev nD) (t : Fin cfg0.N) (r : Fin 512) (n : Fin 1024) (b : t.val * 512 + r.val < 8192) :
    (iblk m c 0 t : Vec Ideal S512x1024 .bf16) (ix2 r n) = m ((c.tc : Thread nD τ).loc main_arg0) (ix2 ⟨t.val * 512 + r.val, b⟩ ⟨3072 + n.val, by omega⟩) := by
  refine Eq.trans ?_ (congrFun (V_main_arg0 m c) _)
  blk_simp [iblk]
  refine congrArg (V m c main_arg0) (funext fun a => Fin.ext ?_)
  match a with
  | ⟨0, _⟩ => blk_simp [idx t]
  | ⟨1, _⟩ => blk_simp [idx t]

theorem table (c : Dev nD) (t : Fin cfg0.N) (k : Fin 256) (n : Fin 512) :
    (iblk m c 1 t : Vec Ideal S256x512 .bf16) (ix2 k n) = V m c main_v14 (ix2 k n) := by
  blk_simp [iblk]
  refine congrArg (V m c main_v14) (funext fun a => Fin.ext ?_)
  match a with
  | ⟨0, _⟩ => blk_simp [idx t]
  | ⟨1, _⟩ => blk_simp [idx t]

theorem point_re (c : Dev nD) (t : Fin cfg0.N) (r : Fin 512) (G : Fin 4) (d : Fin 256) (b : t.val * 512 + r.val < 8192) :
    out0_2 (iblk m c 0 t : Vec Ideal S512x1024 .bf16) (iblk m c 1 t : Vec Ideal S256x512 .bf16) (ix2 r ⟨G.val * 256 + d.val, by omega⟩) =
      Cert.Reference5Ideal.Read.val_main_v17 (F := Ideal) (m ((c.tc : Thread nD τ).loc main_arg0)) (ix2 ⟨t.val * 512 + r.val, b⟩ ⟨G.val * 256 + d.val, by omega⟩) := by
  rw [out_re, ref_re]
  exact Finset.sum_congr rfl fun k _ => congrArg₂ (· * ·) (rows m c t r _ b) ((table m c t k _).trans (table_re _ k d))

theorem point_im (c : Dev nD) (t : Fin cfg0.N) (r : Fin 512) (G : Fin 4) (d : Fin 256) (b : t.val * 512 + r.val < 8192) :
    out0_3 (iblk m c 0 t : Vec Ideal S512x1024 .bf16) (iblk m c 1 t : Vec Ideal S256x512 .bf16) (ix2 r ⟨G.val * 256 + d.val, by omega⟩) =
      Cert.Reference5Ideal.Read.val_main_v18 (F := Ideal) (m ((c.tc : Thread nD τ).loc main_arg0)) (ix2 ⟨t.val * 512 + r.val, b⟩ ⟨G.val * 256 + d.val, by omega⟩) := by
  rw [out_im, ref_im]
  exact Finset.sum_congr rfl fun k _ => congrArg₂ (· * ·) (rows m c t r _ b) ((table m c t k _).trans (table_im _ k d))

/-- A column is a channel of a group. -/
theorem column (n : Fin 1024) : ∃ (G : Fin 4) (d : Fin 256), n = ⟨G.val * 256 + d.val, by omega⟩ :=
  ⟨⟨n.val / 256, by omega⟩, ⟨n.val % 256, by omega⟩, Fin.ext (by show n.val = n.val / 256 * 256 + n.val % 256; omega)⟩

theorem final2 (c : Dev nD) : (dats m 0 c).arrAt 2 cfg0.N = Cert.Reference5Ideal.Read.val_main_v17 (F := Ideal) (m ((c.tc : Thread nD τ).loc main_arg0)) := by
  refine (dats m 0 c).arrAt_eq_of_covers 2 _ (by decide +kernel) fun t hf y => ?_
  blk_simp
  rw [after0_2]
  change S512x1024.Idx at y
  idx_vars y
  have ht : t.val < 16 := lt_of_lt_of_eq t.isLt N_0
  obtain ⟨G, d, rfl⟩ := column y1
  refine (point_re m c t y0 G d (by omega)).trans (congrArg _ ?_)
  blk_ext [idx t]

theorem final3 (c : Dev nD) : (dats m 0 c).arrAt 3 cfg0.N = Cert.Reference5Ideal.Read.val_main_v18 (F := Ideal) (m ((c.tc : Thread nD τ).loc main_arg0)) := by
  refine (dats m 0 c).arrAt_eq_of_covers 3 _ (by decide +kernel) fun t hf y => ?_
  blk_simp
  rw [after0_3]
  change S512x1024.Idx at y
  idx_vars y
  have ht : t.val < 16 := lt_of_lt_of_eq t.isLt N_0
  obtain ⟨G, d, rfl⟩ := column y1
  refine (point_im m c t y0 G d (by omega)).trans (congrArg _ ?_)
  blk_ext [idx t]

end Cert.Fourier

end
-- ==== Proof.StageBlock.lean ====
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit

@[expose] public section

set_option maxRecDepth 16384

noncomputable section

/-! The last Fourier stage: what a grid point writes, what the array holds, and the reference's value. -/

namespace Cert.Stage

open Cert.Kernel6Ideal Cert.Kernel6Ideal.Gen Idealize.ShloMosaic Idealize.ShloMosaic.TcCoe Idealize.SL.Sem

/-- One over the square root of the number of points of the two-dimensional transform. -/
def ortho : EReal := (((Real.sqrt 2097152)⁻¹ : ℝ) : EReal)

theorem named_ortho : Named.named (F := Ideal) κ "s_ortho" (φ := .f32) 0x3A3504F3#32 = ortho := rfl

/-! The eight rows' stored values are one chain of operations, cut differently from row to row. -/

section Same
variable (C S : FVec Ideal S64x64 .bf16) (c s : Vec Ideal S64x64 .bf16) (A B : Vec Ideal S1x64x1024 .f32)
theorem same6 : k0_pay1 C S (k0_pay12 A) B = k0_pay2 C S A B := rfl
theorem same5 : k0_pay11 C S A B = k0_pay2 C S A B := rfl
theorem same4 : k0_pay10 C S A B = k0_pay2 C S A B := rfl
theorem same3 : k0_pay9 C S A B = k0_pay2 C S A B := rfl
theorem same2 : k0_pay8 C S A B = k0_pay2 C S A B := rfl
theorem same1 : k0_pay7 (k0_pay6 c s A B) = k0_pay2 (k0_pay3 c) (k0_pay4 s) A B := rfl
theorem same0 : k0_pay5 c s A B = k0_pay2 (k0_pay3 c) (k0_pay4 s) A B := rfl

theorem pay2_apply (k : Fin 64) (w : Fin 1024) :
    k0_pay2 C S A B (ix3 k 0 w) = (∑ j : Fin 64, C (ix2 k j) * A (ix3 0 j w) + ∑ j : Fin 64, S (ix2 k j) * B (ix3 0 j w)) * ortho := by
  pointwise [k0_pay2]
  rw [named_ortho]
end Same

theorem piece (C S : FVec Ideal S64x64 .bf16) (A B : Vec Ideal S1x64x1024 .f32) (x : S64x1x1024.Idx) (k : Fin 64) (w : Fin 1024) (c s a b : Fin 64 → EReal)
    (hk : k.val = (x 0).val) (hw : w.val = (x 2).val) (hc : ∀ j, C (ix2 k j) = c j) (hs : ∀ j, S (ix2 k j) = s j)
    (ha : ∀ j, A (ix3 0 j w) = a j) (hb : ∀ j, B (ix3 0 j w) = b j) :
    k0_pay2 C S A B x = (∑ j : Fin 64, c j * a j + ∑ j : Fin 64, s j * b j) * ortho := by
  idx_vars x
  obtain rfl : k = x0 := Fin.ext hk
  obtain rfl : w = x2 := Fin.ext hw
  obtain rfl : x1 = 0 := Subsingleton.elim _ _
  obtain rfl : (fun j => C (ix2 k j)) = c := funext hc
  obtain rfl : (fun j => S (ix2 k j)) = s := funext hs
  obtain rfl : (fun j => A (ix3 0 j w)) = a := funext ha
  obtain rfl : (fun j => B (ix3 0 j w)) = b := funext hb
  exact pay2_apply C S A B k w

theorem row_eq (b : Vec Ideal S8x64x1024 .f32) (q q' : Fin 8) (j : Fin 64) (w : Fin 1024) (h : q.val = q'.val) : b (ix3 q j w) = b (ix3 q' j w) := by
  rw [Fin.ext h]

theorem out_apply (b0 b1 : Vec Ideal S8x64x1024 .f32) (b2 b3 : Vec Ideal S64x64 .bf16) (k : Fin 64) (q : Fin 8) (w : Fin 1024) :
    out0_4 b0 b1 b2 b3 (ix3 k q w) = (∑ j : Fin 64, b2 (ix2 k j) * b0 (ix3 q j w) + ∑ j : Fin 64, b3 (ix2 k j) * b1 (ix3 q j w)) * ortho := by
  canon_tiles x h
  all_goals
    try simp only [same0, same1, same2, same3, same4, same5, same6]
    have e1 : q.val = _ := h1
    refine piece _ _ _ _ x k w _ _ _ _ h0 h2 (fun j => ?_) (fun j => ?_) (fun j => ?_) (fun j => ?_)
  all_goals first
    | (pointwise [k0_pay13, k0_pay3]; done)
    | (pointwise [k0_pay14, k0_pay4]; done)
    | (pointwise
       refine row_eq _ _ _ _ _ ?_
       first
         | omega
         | (show 0 = q.val; omega)
         | (show 1 = q.val; omega))

/-! The host's two tables. -/

section Table
variable (σ : Valuation τ sig (Elt Ideal))

theorem exponents : StableHlo.after (hostOps0_1 (F := Ideal)) (StableHlo.after (hostOps0 (F := Ideal)) σ) (Proc.devRef .tc main_v7) = Cert.Reference6Ideal.Read.val_main_v6 (F := Ideal) := by
  rw [← StableHlo.after_append]
  simp only [hostOps0, hostOps0_1, List.cons_append, List.nil_append, StableHlo.TRef.binary, StableHlo.TRef.nullary, StableHlo.TRef.ternary, StableHlo.TRef.unary, StableHlo.TRef.toBuf, StableHlo.TRef.ofBuf, cast_eq]
  after_results
  rfl

theorem table_cos (k j : Fin 64) : StableHlo.after (List.flatten [hostOps0 (F := Ideal), hostOps0_1, hostOps0_2]) σ (Proc.devRef .tc main_v13) (ix2 k j)
    = Cert.Reference6Ideal.Read.val_main_v10 (F := Ideal) (ix2 k j) := by
  have h := exponents σ
  have e : StableHlo.after (List.flatten [hostOps0 (F := Ideal), hostOps0_1, hostOps0_2]) σ = StableHlo.after (hostOps0_2 (F := Ideal)) (StableHlo.after (hostOps0_1 (F := Ideal)) (StableHlo.after (hostOps0 (F := Ideal)) σ)) := rfl
  rw [e]
  generalize StableHlo.after (hostOps0_1 (F := Ideal)) (StableHlo.after (hostOps0 (F := Ideal)) σ) = σ' at h ⊢
  simp only [hostOps0_2]
  after_results
  rw [h]
  unfold Cert.Reference6Ideal.Read.val_main_v10 Cert.Reference6Ideal.Read.val_main_v9 Cert.Reference6Ideal.Read.val_main_v8 Cert.Reference6Ideal.Read.val_main_v7 Cert.Reference6Ideal.Read.val_main_cst
  generalize Cert.Reference6Ideal.Read.val_main_v6 (F := Ideal) = E
  pointwise
  exact congrArg Ideal.cos (mul_comm _ _)

theorem table_sin (k j : Fin 64) : StableHlo.after (List.flatten [hostOps0 (F := Ideal), hostOps0_1, hostOps0_2]) σ (Proc.devRef .tc main_v14) (ix2 k j)
    = Cert.Reference6Ideal.Read.val_main_v12 (F := Ideal) (ix2 k j) := by
  have h := exponents σ
  have e : StableHlo.after (List.flatten [hostOps0 (F := Ideal), hostOps0_1, hostOps0_2]) σ = StableHlo.after (hostOps0_2 (F := Ideal)) (StableHlo.after (hostOps0_1 (F := Ideal)) (StableHlo.after (hostOps0 (F := Ideal)) σ)) := rfl
  rw [e]
  generalize StableHlo.after (hostOps0_1 (F := Ideal)) (StableHlo.after (hostOps0 (F := Ideal)) σ) = σ' at h ⊢
  simp only [hostOps0_2]
  after_results
  rw [h]
  unfold Cert.Reference6Ideal.Read.val_main_v12 Cert.Reference6Ideal.Read.val_main_v9 Cert.Reference6Ideal.Read.val_main_v8 Cert.Reference6Ideal.Read.val_main_v7 Cert.Reference6Ideal.Read.val_main_cst
  generalize Cert.Reference6Ideal.Read.val_main_v6 (F := Ideal) = E
  pointwise
  exact congrArg Ideal.sin (mul_comm _ _)

end Table

section Reference
variable (X Y : Vec Ideal S128x64x1024 .f32)

theorem word : Ideal.ofBits .f32 0x4A000000#32 = ((2097152 : ℝ) : EReal) := by
  simp [Ideal.ofBits, Ideal.ieee, -EReal.coe_mul]; norm_num

theorem div_sqrt (x : EReal) : Ideal.div x (Ideal.sqrt (Ideal.ofBits .f32 0x4A000000#32)) = x * ortho := by
  have h : (0 : ℝ) < Real.sqrt 2097152 := Real.sqrt_pos.2 (by norm_num)
  rw [word, Ideal.sqrt_coe, if_neg (by norm_num), Ideal.div_coe h.ne', one_div]
  rfl

theorem ref_apply (k : Fin 64) (q : Fin 128) (w : Fin 1024) : Cert.Reference6Ideal.Read.val_main_v17 (F := Ideal) X Y (ix3 k q w)
    = (∑ j : Fin 64, Cert.Reference6Ideal.Read.val_main_v10 (F := Ideal) (ix2 k j) * X (ix3 q j w)
        + ∑ j : Fin 64, Cert.Reference6Ideal.Read.val_main_v12 (F := Ideal) (ix2 k j) * Y (ix3 q j w)) * ortho := by
  rw [Cert.Reference6Ideal.Read.val_main_v17_apply, Cert.Reference6Ideal.Read.val_main_v14_apply, Cert.Reference6Ideal.Read.val_main_v11_apply, Cert.Reference6Ideal.Read.val_main_v13_apply]
  refine (div_sqrt _).trans (congrArg (fun r : EReal => r * ortho) (congrArg₂ (· + ·) ?_ ?_))
  · refine Finset.sum_congr rfl fun j _ => congrArg₂ (· * ·) (congrArg _ (funext fun a => ?_)) (congrArg X (funext fun a => ?_))
    · match a with
      | ⟨0, _⟩ => rfl
      | ⟨1, _⟩ => rfl
    · match a with
      | ⟨0, _⟩ => rfl
      | ⟨1, _⟩ => rfl
      | ⟨2, _⟩ => rfl
  · refine Finset.sum_congr rfl fun j _ => congrArg₂ (· * ·) (congrArg _ (funext fun a => ?_)) (congrArg Y (funext fun a => ?_))
    · match a with
      | ⟨0, _⟩ => rfl
      | ⟨1, _⟩ => rfl
    · match a with
      | ⟨0, _⟩ => rfl
      | ⟨1, _⟩ => rfl
      | ⟨2, _⟩ => rfl

end Reference

variable (m : (ℓ : Loc nD τ sig) → Buf (Elt Ideal) ℓ)

theorem idx : ∀ t : Fin cfg0.N, win0_0.index t = ![t.val, 0, 0] ∧ win0_1.index t = ![t.val, 0, 0] ∧ win0_2.index t = ![0, 0] ∧ win0_3.index t = ![0, 0] ∧ win0_4.index t = ![0, t.val, 0] :=
  (by decide +kernel : ∀ t : Fin grid0.N, _)

section Blocks
variable (c : Dev nD) (t : Fin cfg0.N)

theorem block0 (q : Fin 8) (j : Fin 64) (w : Fin 1024) (b : t.val * 8 + q.val < 128) :
    (iblk m c 0 t : Vec Ideal S8x64x1024 .f32) (ix3 q j w) = m ((c.tc : Thread nD τ).loc main_arg0) (ix3 ⟨t.val * 8 + q.val, b⟩ j w) := by
  refine Eq.trans ?_ (congrFun (V_main_arg0 m c) _)
  blk_simp [iblk]
  refine congrArg (V m c main_arg0) (funext fun a => Fin.ext ?_)
  match a with
  | ⟨0, _⟩ => blk_simp [idx t]
  | ⟨1, _⟩ => blk_simp [idx t]
  | ⟨2, _⟩ => blk_simp [idx t]

theorem block1 (q : Fin 8) (j : Fin 64) (w : Fin 1024) (b : t.val * 8 + q.val < 128) :
    (iblk m c 1 t : Vec Ideal S8x64x1024 .f32) (ix3 q j w) = m ((c.tc : Thread nD τ).loc main_arg1) (ix3 ⟨t.val * 8 + q.val, b⟩ j w) := by
  refine Eq.trans ?_ (congrFun (V_main_arg1 m c) _)
  blk_simp [iblk]
  refine congrArg (V m c main_arg1) (funext fun a => Fin.ext ?_)
  match a with
  | ⟨0, _⟩ => blk_simp [idx t]
  | ⟨1, _⟩ => blk_simp [idx t]
  | ⟨2, _⟩ => blk_simp [idx t]

theorem block2 (k j : Fin 64) : (iblk m c 2 t : Vec Ideal S64x64 .bf16) (ix2 k j) = V m c main_v13 (ix2 k j) := by
  blk_simp [iblk]
  refine congrArg (V m c main_v13) (funext fun a => Fin.ext ?_)
  match a with
  | ⟨0, _⟩ => blk_simp [idx t]
  | ⟨1, _⟩ => blk_simp [idx t]

theorem block3 (k j : Fin 64) : (iblk m c 3 t : Vec Ideal S64x64 .bf16) (ix2 k j) = V m c main_v14 (ix2 k j) := by
  blk_simp [iblk]
  refine congrArg (V m c main_v14) (funext fun a => Fin.ext ?_)
  match a with
  | ⟨0, _⟩ => blk_simp [idx t]
  | ⟨1, _⟩ => blk_simp [idx t]

end Blocks

theorem point (c : Dev nD) (t : Fin cfg0.N) (k : Fin 64) (q : Fin 8) (w : Fin 1024) (b : t.val * 8 + q.val < 128) :
    out0_4 (iblk m c 0 t : Vec Ideal S8x64x1024 .f32) (iblk m c 1 t : Vec Ideal S8x64x1024 .f32) (iblk m c 2 t : Vec Ideal S64x64 .bf16) (iblk m c 3 t : Vec Ideal S64x64 .bf16) (ix3 k q w) =
      Cert.Reference6Ideal.Read.val_main_v17 (F := Ideal) (m ((c.tc : Thread nD τ).loc main_arg0)) (m ((c.tc : Thread nD τ).loc main_arg1)) (ix3 k ⟨t.val * 8 + q.val, b⟩ w) := by
  rw [out_apply, ref_apply]
  refine congrArg (fun r : EReal => r * ortho) (congrArg₂ (· + ·) ?_ ?_)
  · exact Finset.sum_congr rfl fun j _ => congrArg₂ (· * ·) ((block2 m c t k j).trans (table_cos _ k j)) (block0 m c t q j w b)
  · exact Finset.sum_congr rfl fun j _ => congrArg₂ (· * ·) ((block3 m c t k j).trans (table_sin _ k j)) (block1 m c t q j w b)

theorem final4 (c : Dev nD) : (dats m 0 c).arrAt 4 cfg0.N = Cert.Reference6Ideal.Read.val_main_v17 (F := Ideal) (m ((c.tc : Thread nD τ).loc main_arg0)) (m ((c.tc : Thread nD τ).loc main_arg1)) := by
  refine (dats m 0 c).arrAt_eq_of_covers 4 _ (by decide +kernel) fun t hf y => ?_
  blk_simp
  rw [after0_4]
  change S64x8x1024.Idx at y
  idx_vars y
  have ht : t.val < 16 := lt_of_lt_of_eq t.isLt N_0
  refine (point m c t y0 y1 y2 (by omega)).trans (congrArg _ ?_)
  blk_ext [idx t]

end Cert.Stage

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_gains
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Softmax
public import proofs.«01_k».proof.Proof.InprojBlock
public import proofs.«01_k».proof.Proof.MergeBlock
public import proofs.«01_k».proof.Proof.OutprojBlock
public import proofs.«01_k».proof.Proof.FourierBlock
public import proofs.«01_k».proof.Proof.StageBlock
public import Idealize.ShloMosaic.Lib.ReduceAll
public import Idealize.ShloMosaic.Adequacy
public import Idealize.ShloMosaic.Init

@[expose] public section

noncomputable section

namespace Cert.Proof

open Idealize.ShloMosaic Idealize.SL.Sem Cert.Kernel Cert.Attn

/-- A gain whose absolute value compares below plus infinity is a real. -/
theorem real_of_below (x : EReal) (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

theorem gains_real [Cert.Pre_finite_gains.Facts] (P : FVec Ideal Cert.Pre_finite_gains.S8192x8192 .bf16) (gq gk : FVec Ideal Cert.Pre_finite_gains.S1x128 .f32)
    (h : Cert.Pre_finite_gains.fn (F := Ideal) P gq gk = fun _ => 1#1) : (∀ i, IsReal (gq i)) ∧ ∀ i, IsReal (gk i) := by
  have h0 := congrFun h (fun a => a.elim0)
  simp only [Cert.Pre_finite_gains.fn, andi] at h0
  obtain ⟨h1, h2⟩ := IntOp.andi_eq_one.1 h0
  exact ⟨fun i => real_of_below _ (Host.reduce_andi_all _ _ _ _ _ h1 i), fun i => real_of_below _ (Host.reduce_andi_all _ _ _ _ _ h2 i)⟩

theorem frame_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m g)

/-- Two results that agree at every head, entry and token are equal. -/
theorem ext_by_head (f f' : Cert.KernelIdeal.S8192x2048.Idx → EReal)
    (e : ∀ (h : Fin 16) (d : Fin 128) (T : Fin 8192), f (ix2 T ⟨h.val * 128 + d.val, by omega⟩) = f' (ix2 T ⟨h.val * 128 + d.val, by omega⟩)) : f = f' := by
  funext i
  have hi : (i 1).val < 2048 := (i 1).isLt
  have ei : i = ix2 (i 0) (⟨(⟨(i 1).val / 128, by omega⟩ : Fin 16).val * 128 + (⟨(i 1).val % 128, by omega⟩ : Fin 128).val, by simp only; omega⟩ : Fin 2048) := by
    funext a
    match a with
    | 0 => rfl
    | 1 => exact Fin.ext (by show (i 1).val = (i 1).val / 128 * 128 + (i 1).val % 128; omega)
  rw [ei]
  exact e _ _ _

/-- The kernel's result array is the reference's, as functions of arguments with finite gains. -/
theorem arrays_eq (m : (ℓ : Loc Cert.KernelIdeal.nD Cert.KernelIdeal.τ Cert.KernelIdeal.sig) → Buf (Elt Ideal) ℓ) (g : Dev Cert.KernelIdeal.nD → PrngReg) (c : Dev Cert.KernelIdeal.nD)
    (hq : ∀ i, IsReal (m ((c.tc : Thread Cert.KernelIdeal.nD Cert.KernelIdeal.τ).loc Cert.KernelIdeal.main_arg1) i))
    (hk : ∀ i, IsReal (m ((c.tc : Thread Cert.KernelIdeal.nD Cert.KernelIdeal.τ).loc Cert.KernelIdeal.main_arg2) i)) :
    (Cert.KernelIdeal.Gen.dat1 (F := Ideal) (Cert.KernelIdeal.Gen.V2 m g) c).arrAt 3 Cert.KernelIdeal.cfg1.N =
      Cert.ReferenceIdeal.Read.val_main_v153 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) :=
  ext_by_head _ _ fun h d T => (final_result m g c h d T).trans (result_eq _ _ _ hq hk h d T (by omega))

theorem algebraic : letI := Cert.KernelIdeal.Gen.facts; letI := Cert.ReferenceIdeal.Gen.facts; letI := Cert.Pre_finite_gains.Gen.facts
    Cert.algebraic_KernelIdeal_ReferenceIdeal_pre_finite_gains := by
  intro m g m' g' hpre hargs
  refine ⟨fun c => (Cert.KernelIdeal.Gen.dat1 (F := Ideal) (Cert.KernelIdeal.Gen.V2 m g) c).arrAt 3 Cert.KernelIdeal.cfg1.N, Cert.KernelIdeal.Gen.run_result m g, ?_⟩
  refine (θ_run Cert.ReferenceIdeal.defs _ _).mono (fun r h c => ⟨?_, (h c).2⟩) (Cert.ReferenceIdeal.Value.run (F := Ideal) m' g')
  obtain ⟨hq, hk⟩ := gains_real _ _ _ (hpre c)
  obtain ⟨a0, a1, a2⟩ := hargs c
  refine ((h c).1.trans (Cert.ReferenceIdeal.Read.val_main_v153_eq _)).trans ?_
  refine Eq.trans ?_ (arrays_eq m g c hq hk).symm
  rw [← a0, ← a1, ← a2]

theorem frame_reference2 (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m g)

theorem algebraic2 : letI := Cert.Kernel2Ideal.Gen.facts; letI := Cert.Reference2Ideal.Gen.facts
    Cert.algebraic_Kernel2Ideal_Reference2Ideal := by
  intro m g m' g' _ hargs
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ⟨?_, (h c).2⟩) (Cert.Reference2Ideal.Value.run (F := Ideal) m' g')
  obtain ⟨a0, a1, a2⟩ := hargs c
  refine ((h c).1.trans (Cert.Reference2Ideal.Read.val_main_v15_eq _ _ _)).trans ?_
  refine Eq.trans ?_ (Cert.Inproj.final m c).symm
  rw [← a0, ← a1, ← a2]

theorem frame_reference3 (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m g)

theorem algebraic3 : letI := Cert.Kernel3Ideal.Gen.facts; letI := Cert.Reference3Ideal.Gen.facts
    Cert.algebraic_Kernel3Ideal_Reference3Ideal := by
  intro m g m' g' _ hargs
  refine ⟨fun c => (Cert.Kernel3Ideal.Gen.dats m 0 c).arrAt 6 Cert.Kernel3Ideal.cfg0.N, Cert.Kernel3Ideal.Value.run_blocks m g, ?_⟩
  refine (θ_run Cert.Reference3Ideal.defs _ _).mono (fun r h c => ⟨?_, (h c).2⟩) (Cert.Reference3Ideal.Value.run (F := Ideal) m' g')
  obtain ⟨a0, a1, a2, a3, a4⟩ := hargs c
  refine ((h c).1.trans (Cert.Reference3Ideal.Read.val_main_v18_eq _ _ _ _ _)).trans ?_
  refine Eq.trans ?_ (Cert.Merge.final m c).symm
  rw [← a0, ← a1, ← a2, ← a3, ← a4]

theorem frame_reference4 (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0) :=
  (θ_run Cert.Reference4Ideal.defs _ _).mono (fun r h => ⟨fun c => (h c).2.2.2, sem_eq_zero_of_no_sems (by decide) r.2⟩)
    (Cert.Reference4Ideal.Value.run (F := Ideal) m g)

theorem algebraic4 : letI := Cert.Kernel4Ideal.Gen.facts; letI := Cert.Reference4Ideal.Gen.facts
    Cert.algebraic_Kernel4Ideal_Reference4Ideal := by
  intro m g m' g' _ hargs
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 7 Cert.Kernel4Ideal.cfg0.N, Cert.Kernel4Ideal.Value.run_blocks m g, ?_⟩
  refine (θ_run Cert.Reference4Ideal.defs _ _).mono (fun r h c => ⟨?_, ?_, ?_, (h c).2.2.2⟩) (Cert.Reference4Ideal.Value.run (F := Ideal) m' g')
  all_goals obtain ⟨a0, a1, a2, a3, a4⟩ := hargs c
  · refine ((h c).1.trans (Cert.Reference4Ideal.Read.val_main_v3_eq _ _ _)).trans ?_
    refine Eq.trans ?_ (Cert.Outproj.final5 m c).symm
    rw [← a0, ← a1, ← a2]
  · refine ((h c).2.1.trans (Cert.Reference4Ideal.Read.val_main_v17_eq _ _ _ _)).trans ?_
    refine Eq.trans ?_ (Cert.Outproj.final6 m c).symm
    rw [← a0, ← a1, ← a2, ← a3]
  · refine ((h c).2.2.1.trans (Cert.Reference4Ideal.Read.val_main_v32_eq _ _)).trans ?_
    refine Eq.trans ?_ (Cert.Outproj.final7 m c).symm
    rw [← a0, ← a1, ← a2, ← a3, ← a4]

theorem frame_reference5 (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0) :=
  (θ_run Cert.Reference5Ideal.defs _ _).mono (fun r h => ⟨fun c => (h c).2.2, sem_eq_zero_of_no_sems (by decide) r.2⟩)
    (Cert.Reference5Ideal.Value.run (F := Ideal) m g)

theorem algebraic5 : letI := Cert.Kernel5Ideal.Gen.facts; letI := Cert.Reference5Ideal.Gen.facts
    Cert.algebraic_Kernel5Ideal_Reference5Ideal := by
  intro m g m' g' _ hargs
  refine ⟨fun c => (Cert.Kernel5Ideal.Gen.dats m 0 c).arrAt 2 Cert.Kernel5Ideal.cfg0.N, fun c => (Cert.Kernel5Ideal.Gen.dats m 0 c).arrAt 3 Cert.Kernel5Ideal.cfg0.N, Cert.Kernel5Ideal.Value.run_blocks m g, ?_⟩
  refine (θ_run Cert.Reference5Ideal.defs _ _).mono (fun r h c => ⟨?_, ?_, (h c).2.2⟩) (Cert.Reference5Ideal.Value.run (F := Ideal) m' g')
  all_goals have a0 := hargs c
  · refine ((h c).1.trans (Cert.Reference5Ideal.Read.val_main_v17_eq _)).trans ?_
    refine Eq.trans ?_ (Cert.Fourier.final2 m c).symm
    rw [← a0]
  · refine ((h c).2.1.trans (Cert.Reference5Ideal.Read.val_main_v18_eq _)).trans ?_
    refine Eq.trans ?_ (Cert.Fourier.final3 m c).symm
    rw [← a0]

theorem frame_reference6 (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m g)

theorem algebraic6 : letI := Cert.Kernel6Ideal.Gen.facts; letI := Cert.Reference6Ideal.Gen.facts
    Cert.algebraic_Kernel6Ideal_Reference6Ideal := by
  intro m g m' g' _ hargs
  refine ⟨fun c => (Cert.Kernel6Ideal.Gen.dats m 0 c).arrAt 4 Cert.Kernel6Ideal.cfg0.N, Cert.Kernel6Ideal.Value.run_blocks m g, ?_⟩
  refine (θ_run Cert.Reference6Ideal.defs _ _).mono (fun r h c => ⟨?_, (h c).2⟩) (Cert.Reference6Ideal.Value.run (F := Ideal) m' g')
  obtain ⟨a0, a1⟩ := hargs c
  refine ((h c).1.trans (Cert.Reference6Ideal.Read.val_main_v17_eq _ _)).trans ?_
  refine Eq.trans ?_ (Cert.Stage.final4 m c).symm
  rw [← a0, ← a1]

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Pre_finite_gains.Gen.facts,
  fun m g _ => Cert.Kernel.Gen.frame m g, fun m g _ => Cert.KernelIdeal.Gen.frame m g, fun m g _ => Cert.KernelIdeal.Gen.frame m g,
  fun m g _ => frame_reference m g, fun m g _ => frame_reference m g,
  fun m g _ => Cert.Kernel2.Gen.frame m g, fun m g _ => Cert.Kernel2Ideal.Gen.frame m g, fun m g _ => frame_reference2 m g,
  fun m g _ => Cert.Kernel3.Gen.frame m g, fun m g _ => Cert.Kernel3Ideal.Gen.frame m g, fun m g _ => frame_reference3 m g,
  fun m g _ => Cert.Kernel4.Gen.frame m g, fun m g _ => Cert.Kernel4Ideal.Gen.frame m g, fun m g _ => frame_reference4 m g,
  fun m g _ => Cert.Kernel5.Gen.frame m g, fun m g _ => Cert.Kernel5Ideal.Gen.frame m g, fun m g _ => frame_reference5 m g,
  fun m g _ => Cert.Kernel6.Gen.frame m g, fun m g _ => Cert.Kernel6Ideal.Gen.frame m g, fun m g _ => frame_reference6 m g,
  IdealRules.named_const.statement Cert.KernelIdeal.κ "s_log2e" .f32 0x3E0293EE#32 _ rfl, algebraic,
  trivial, algebraic2, trivial, algebraic3, trivial, algebraic4, trivial, algebraic5,
  IdealRules.named_const.statement Cert.Kernel6Ideal.κ "s_ortho" .f32 0x3A3504F3#32 _ rfl, algebraic6⟩

end Cert.Proof

end
